-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1792x1024 : Shape := ⟨2, ![1792, 1024]⟩
abbrev S6 : Shape := ⟨1, ![6]⟩
abbrev S36 : Shape := ⟨1, ![36]⟩
abbrev S_ : Shape := ⟨0, ![]⟩
abbrev S1 : Shape := ⟨1, ![1]⟩
abbrev S192x1024 : Shape := ⟨2, ![192, 1024]⟩
abbrev S160x1024 : Shape := ⟨2, ![160, 1024]⟩
abbrev S96x1024 : Shape := ⟨2, ![96, 1024]⟩
abbrev S80x1024 : Shape := ⟨2, ![80, 1024]⟩
abbrev S48x1024 : Shape := ⟨2, ![48, 1024]⟩
abbrev S40x1024 : Shape := ⟨2, ![40, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1792x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.xori v2 c1_i32_4
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_11 : BitVec 32 := 1#32
  let v17 : BitVec 32 := Scalar.muli v16 c1_i32_11
  let v18 : BitVec 32 := Scalar.addi c0_i32_12 v17
  v18.toNat
def k0_off1 (d0 : Dev nD) : Fin 2 → Nat :=
  let c0_i32_15 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v19 : BitVec 32 := Scalar.subi c1_i32_14 v8
  let c192_i32 : BitVec 32 := 192#32
  let v20 : BitVec 32 := Scalar.muli v19 c192_i32
  let v21 : BitVec 32 := Scalar.addi c0_i32_15 v20
  let c0_i32_23 : BitVec 32 := 0#32
  ![v21.toNat, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v22 : BitVec 32 := Scalar.xori v2 c1_i32_16
  let c1_i32_19 : BitVec 32 := 1#32
  let v23 : BitVec 32 := Scalar.muli v22 c1_i32_19
  let v24 : BitVec 32 := Scalar.addi c0_i32_20 v23
  v24.toNat
def k0_off2 (d0 : Dev nD) : Fin 2 → Nat :=
  let c704_i32 : BitVec 32 := 704#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v31 : BitVec 32 := Scalar.subi c1_i32_24 v5
  let c192_i32_25 : BitVec 32 := 192#32
  let v32 : BitVec 32 := Scalar.muli v31 c192_i32_25
  let v33 : BitVec 32 := Scalar.addi c704_i32 v32
  let c0_i32_31 : BitVec 32 := 0#32
  ![v33.toNat, 0]
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_26 : BitVec 32 := 3#32
  let v34 : BitVec 32 := Scalar.xori v2 c3_i32_26
  let c1_i32_28 : BitVec 32 := 1#32
  let v35 : BitVec 32 := Scalar.muli v34 c1_i32_28
  let v36 : BitVec 32 := Scalar.addi c0_i32_29 v35
  v36.toNat
def k0_off3 (d0 : Dev nD) (c1408_i32 : BitVec 32) (c2_i32 : BitVec 32) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c2_i32
  let c1_i32_3 : BitVec 32 := 1#32
  let v7 : BitVec 32 := Scalar.andi v6 c1_i32_3
  let v43 : BitVec 32 := Scalar.subi c1_i32_32 v7
  let c160_i32 : BitVec 32 := 160#32
  let v44 : BitVec 32 := Scalar.muli v43 c160_i32
  let v45 : BitVec 32 := Scalar.addi c1408_i32 v44
  let c0_i32_38 : BitVec 32 := 0#32
  ![v45.toNat, 0]
def k0_off3_at (r : Fin 3) : BitVec 32 × BitVec 32 :=
  if r.val < 1 then
    (1408#32, 2#32)
  else
    if r.val < 2 then
      (1088#32, 1#32)
    else
      (1728#32, 2#32)
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v46 : BitVec 32 := Scalar.xori v2 c4_i32_33
  let c1_i32_35 : BitVec 32 := 1#32
  let v47 : BitVec 32 := Scalar.muli v46 c1_i32_35
  let v48 : BitVec 32 := Scalar.addi c0_i32_36 v47
  v48.toNat
def k0_off4 (d0 : Dev nD) : Fin 2 → Nat :=
  let c384_i32 : BitVec 32 := 384#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v55 : BitVec 32 := Scalar.subi c1_i32_39 v8
  let c160_i32_40 : BitVec 32 := 160#32
  let v56 : BitVec 32 := Scalar.muli v55 c160_i32_40
  let v57 : BitVec 32 := Scalar.addi c384_i32 v56
  let c0_i32_46 : BitVec 32 := 0#32
  ![v57.toNat, 0]
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v58 : BitVec 32 := Scalar.xori v2 c1_i32_41
  let c1_i32_43 : BitVec 32 := 1#32
  let v59 : BitVec 32 := Scalar.muli v58 c1_i32_43
  let v60 : BitVec 32 := Scalar.addi c0_i32_44 v59
  v60.toNat
def k0_dev8 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_49 : BitVec 32 := 3#32
  let v70 : BitVec 32 := Scalar.xori v2 c3_i32_49
  let c1_i32_51 : BitVec 32 := 1#32
  let v71 : BitVec 32 := Scalar.muli v70 c1_i32_51
  let v72 : BitVec 32 := Scalar.addi c0_i32_52 v71
  v72.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v82 : BitVec 32 := Scalar.xori v2 c4_i32_57
  let c1_i32_58 : BitVec 32 := 1#32
  let v83 : BitVec 32 := Scalar.muli v82 c1_i32_58
  let v84 : BitVec 32 := Scalar.addi c0_i32_59 v83
  v84.toNat
def k0_off5 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c1_i32_77 : BitVec 32 := 1#32
  let v103 : BitVec 32 := Scalar.subi c1_i32_77 v5
  let c96_i32 : BitVec 32 := 96#32
  let v104 : BitVec 32 := Scalar.muli v103 c96_i32
  let v105 : BitVec 32 := Scalar.addi v102 v104
  let v106 : Index := Scalar.indexCast v105
  let c0 : Index := 0#32
  ![v106.toNat, 0]
def k0_off6 (d0 : Dev nD) (c0_i32_78 : BitVec 32) (c1_i32_1 : BitVec 32) : Fin 2 → Nat :=
  let c1_i32_77 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let v103 : BitVec 32 := Scalar.subi c1_i32_77 v5
  let c96_i32 : BitVec 32 := 96#32
  let v104 : BitVec 32 := Scalar.muli v103 c96_i32
  let v109 : BitVec 32 := Scalar.addi c0_i32_78 v104
  let v110 : Index := Scalar.indexCast v109
  let c0_79 : Index := 0#32
  ![v110.toNat, 0]
def k0_off6_at (r : Fin 2) : BitVec 32 × BitVec 32 :=
  if r.val < 1 then
    (0#32, 1#32)
  else
    (616#32, 2#32)
def k0_off7 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c1_i32_81 : BitVec 32 := 1#32
  let v116 : BitVec 32 := Scalar.subi c1_i32_81 v5
  let c96_i32_82 : BitVec 32 := 96#32
  let v117 : BitVec 32 := Scalar.muli v116 c96_i32_82
  let v118 : BitVec 32 := Scalar.addi v102 v117
  let c0_i32_90 : BitVec 32 := 0#32
  ![v118.toNat, 0]
def k0_dev10 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_83 : BitVec 32 := 3#32
  let v119 : BitVec 32 := Scalar.xori v2 c3_i32_83
  let c1_i32_86 : BitVec 32 := 1#32
  let v120 : BitVec 32 := Scalar.muli v119 c1_i32_86
  let v121 : BitVec 32 := Scalar.addi c0_i32_87 v120
  v121.toNat
def k0_off8 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_91 : BitVec 32 := 96#32
  let v128 : BitVec 32 := Scalar.muli v5 c96_i32_91
  let v129 : BitVec 32 := Scalar.addi v102 v128
  let v130 : Index := Scalar.indexCast v129
  let c0_92 : Index := 0#32
  ![v130.toNat, 0]
def k0_off9 (d0 : Dev nD) (c0_i32_93 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c96_i32_91 : BitVec 32 := 96#32
  let v128 : BitVec 32 := Scalar.muli v5 c96_i32_91
  let v133 : BitVec 32 := Scalar.addi c0_i32_93 v128
  let v134 : Index := Scalar.indexCast v133
  let c0_94 : Index := 0#32
  ![v134.toNat, 0]
def k0_off9_at (r : Fin 2) : BitVec 32 × BitVec 32 :=
  if r.val < 1 then
    (0#32, 1#32)
  else
    (616#32, 2#32)
def k0_off10 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c1_i32_111 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v152 : BitVec 32 := Scalar.subi c1_i32_111 v7
  let c96_i32_112 : BitVec 32 := 96#32
  let v153 : BitVec 32 := Scalar.muli v152 c96_i32_112
  let v154 : BitVec 32 := Scalar.addi v151 v153
  let v155 : Index := Scalar.indexCast v154
  let c0_113 : Index := 0#32
  ![v155.toNat, 0]
def k0_off11 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c1_i32_117 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v165 : BitVec 32 := Scalar.subi c1_i32_117 v7
  let c96_i32_118 : BitVec 32 := 96#32
  let v166 : BitVec 32 := Scalar.muli v165 c96_i32_118
  let v167 : BitVec 32 := Scalar.addi v151 v166
  let c0_i32_124 : BitVec 32 := 0#32
  ![v167.toNat, 0]
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v168 : BitVec 32 := Scalar.xori v2 c4_i32_119
  let c1_i32_121 : BitVec 32 := 1#32
  let v169 : BitVec 32 := Scalar.muli v168 c1_i32_121
  let v170 : BitVec 32 := Scalar.addi c0_i32_122 v169
  v170.toNat
def k0_off12 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_125 : BitVec 32 := 96#32
  let v177 : BitVec 32 := Scalar.muli v7 c96_i32_125
  let v178 : BitVec 32 := Scalar.addi v151 v177
  let v179 : Index := Scalar.indexCast v178
  let c0_126 : Index := 0#32
  ![v179.toNat, 0]
def k0_off13 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_145 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v201 : BitVec 32 := Scalar.subi c1_i32_145 v8
  let c80_i32 : BitVec 32 := 80#32
  let v202 : BitVec 32 := Scalar.muli v201 c80_i32
  let v203 : BitVec 32 := Scalar.addi v200 v202
  let v204 : Index := Scalar.indexCast v203
  let c0_146 : Index := 0#32
  ![v204.toNat, 0]
def k0_off14 (d0 : Dev nD) (c1232_i32_147 : BitVec 32) : Fin 2 → Nat :=
  let c1_i32_145 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v201 : BitVec 32 := Scalar.subi c1_i32_145 v8
  let c80_i32 : BitVec 32 := 80#32
  let v202 : BitVec 32 := Scalar.muli v201 c80_i32
  let v207 : BitVec 32 := Scalar.addi c1232_i32_147 v202
  let v208 : Index := Scalar.indexCast v207
  let c0_148 : Index := 0#32
  ![v208.toNat, 0]
def k0_off15 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_150 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v214 : BitVec 32 := Scalar.subi c1_i32_150 v8
  let c80_i32_151 : BitVec 32 := 80#32
  let v215 : BitVec 32 := Scalar.muli v214 c80_i32_151
  let v216 : BitVec 32 := Scalar.addi v200 v215
  let c0_i32_157 : BitVec 32 := 0#32
  ![v216.toNat, 0]
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let v217 : BitVec 32 := Scalar.xori v2 c1_i32_152
  let c1_i32_154 : BitVec 32 := 1#32
  let v218 : BitVec 32 := Scalar.muli v217 c1_i32_154
  let v219 : BitVec 32 := Scalar.addi c0_i32_155 v218
  v219.toNat
def k0_off16 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_158 : BitVec 32 := 80#32
  let v226 : BitVec 32 := Scalar.muli v8 c80_i32_158
  let v227 : BitVec 32 := Scalar.addi v200 v226
  let v228 : Index := Scalar.indexCast v227
  let c0_159 : Index := 0#32
  ![v228.toNat, 0]
def k0_off17 (d0 : Dev nD) (c1232_i32_160 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_158 : BitVec 32 := 80#32
  let v226 : BitVec 32 := Scalar.muli v8 c80_i32_158
  let v231 : BitVec 32 := Scalar.addi c1232_i32_160 v226
  let v232 : Index := Scalar.indexCast v231
  let c0_161 : Index := 0#32
  ![v232.toNat, 0]
def k0_off18 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c1_i32_178 : BitVec 32 := 1#32
  let v250 : BitVec 32 := Scalar.subi c1_i32_178 v5
  let c80_i32_179 : BitVec 32 := 80#32
  let v251 : BitVec 32 := Scalar.muli v250 c80_i32_179
  let v252 : BitVec 32 := Scalar.addi v249 v251
  let v253 : Index := Scalar.indexCast v252
  let c0_180 : Index := 0#32
  ![v253.toNat, 0]
def k0_off19 (d0 : Dev nD) (c336_i32_181 : BitVec 32) (c1_i32_1 : BitVec 32) : Fin 2 → Nat :=
  let c1_i32_178 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let v250 : BitVec 32 := Scalar.subi c1_i32_178 v5
  let c80_i32_179 : BitVec 32 := 80#32
  let v251 : BitVec 32 := Scalar.muli v250 c80_i32_179
  let v256 : BitVec 32 := Scalar.addi c336_i32_181 v251
  let v257 : Index := Scalar.indexCast v256
  let c0_182 : Index := 0#32
  ![v257.toNat, 0]
def k0_off19_at (r : Fin 2) : BitVec 32 × BitVec 32 :=
  if r.val < 1 then
    (336#32, 1#32)
  else
    (952#32, 2#32)
def k0_off20 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c1_i32_184 : BitVec 32 := 1#32
  let v263 : BitVec 32 := Scalar.subi c1_i32_184 v5
  let c80_i32_185 : BitVec 32 := 80#32
  let v264 : BitVec 32 := Scalar.muli v263 c80_i32_185
  let v265 : BitVec 32 := Scalar.addi v249 v264
  let c0_i32_191 : BitVec 32 := 0#32
  ![v265.toNat, 0]
def k0_dev13 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_186 : BitVec 32 := 3#32
  let v266 : BitVec 32 := Scalar.xori v2 c3_i32_186
  let c1_i32_188 : BitVec 32 := 1#32
  let v267 : BitVec 32 := Scalar.muli v266 c1_i32_188
  let v268 : BitVec 32 := Scalar.addi c0_i32_189 v267
  v268.toNat
def k0_off21 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_192 : BitVec 32 := 80#32
  let v275 : BitVec 32 := Scalar.muli v5 c80_i32_192
  let v276 : BitVec 32 := Scalar.addi v249 v275
  let v277 : Index := Scalar.indexCast v276
  let c0_193 : Index := 0#32
  ![v277.toNat, 0]
def k0_off22 (d0 : Dev nD) (c336_i32_194 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c80_i32_192 : BitVec 32 := 80#32
  let v275 : BitVec 32 := Scalar.muli v5 c80_i32_192
  let v280 : BitVec 32 := Scalar.addi c336_i32_194 v275
  let v281 : Index := Scalar.indexCast v280
  let c0_195 : Index := 0#32
  ![v281.toNat, 0]
def k0_off22_at (r : Fin 2) : BitVec 32 × BitVec 32 :=
  if r.val < 1 then
    (336#32, 1#32)
  else
    (952#32, 2#32)
def k0_off23 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c1_i32_212 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v299 : BitVec 32 := Scalar.subi c1_i32_212 v7
  let c80_i32_213 : BitVec 32 := 80#32
  let v300 : BitVec 32 := Scalar.muli v299 c80_i32_213
  let v301 : BitVec 32 := Scalar.addi v298 v300
  let v302 : Index := Scalar.indexCast v301
  let c0_214 : Index := 0#32
  ![v302.toNat, 0]
def k0_off24 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c1_i32_218 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v312 : BitVec 32 := Scalar.subi c1_i32_218 v7
  let c80_i32_219 : BitVec 32 := 80#32
  let v313 : BitVec 32 := Scalar.muli v312 c80_i32_219
  let v314 : BitVec 32 := Scalar.addi v298 v313
  let c0_i32_225 : BitVec 32 := 0#32
  ![v314.toNat, 0]
def k0_dev14 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_220 : BitVec 32 := 4#32
  let v315 : BitVec 32 := Scalar.xori v2 c4_i32_220
  let c1_i32_222 : BitVec 32 := 1#32
  let v316 : BitVec 32 := Scalar.muli v315 c1_i32_222
  let v317 : BitVec 32 := Scalar.addi c0_i32_223 v316
  v317.toNat
def k0_off25 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_226 : BitVec 32 := 80#32
  let v324 : BitVec 32 := Scalar.muli v7 c80_i32_226
  let v325 : BitVec 32 := Scalar.addi v298 v324
  let v326 : Index := Scalar.indexCast v325
  let c0_227 : Index := 0#32
  ![v326.toNat, 0]
def k0_dev15 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_254 : BitVec 32 := 1#32
  let v364 : BitVec 32 := Scalar.xori v2 c1_i32_254
  let c1_i32_256 : BitVec 32 := 1#32
  let v365 : BitVec 32 := Scalar.muli v364 c1_i32_256
  let v366 : BitVec 32 := Scalar.addi c0_i32_257 v365
  v366.toNat
def k0_off26 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_278 : BitVec 32 := 96#32
  let v395 : BitVec 32 := Scalar.muli v5 c96_i32_278
  let v396 : BitVec 32 := Scalar.addi v102 v395
  let c1_i32_279 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v397 : BitVec 32 := Scalar.subi c1_i32_279 v7
  let c48_i32 : BitVec 32 := 48#32
  let v398 : BitVec 32 := Scalar.muli v397 c48_i32
  let v399 : BitVec 32 := Scalar.addi v396 v398
  let v400 : Index := Scalar.indexCast v399
  let c0_280 : Index := 0#32
  ![v400.toNat, 0]
def k0_off27 (d0 : Dev nD) : Fin 2 → Nat :=
  let c192_i32_281 : BitVec 32 := 192#32
  let c1_i32_279 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v397 : BitVec 32 := Scalar.subi c1_i32_279 v7
  let c48_i32 : BitVec 32 := 48#32
  let v398 : BitVec 32 := Scalar.muli v397 c48_i32
  let v403 : BitVec 32 := Scalar.addi c192_i32_281 v398
  let v404 : Index := Scalar.indexCast v403
  let c0_282 : Index := 0#32
  ![v404.toNat, 0]
def k0_off28 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_278 : BitVec 32 := 96#32
  let v395 : BitVec 32 := Scalar.muli v5 c96_i32_278
  let v396 : BitVec 32 := Scalar.addi v102 v395
  let c1_i32_284 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v410 : BitVec 32 := Scalar.subi c1_i32_284 v7
  let c48_i32_285 : BitVec 32 := 48#32
  let v411 : BitVec 32 := Scalar.muli v410 c48_i32_285
  let v412 : BitVec 32 := Scalar.addi v396 v411
  let c0_i32_292 : BitVec 32 := 0#32
  ![v412.toNat, 0]
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_286 : BitVec 32 := 4#32
  let v413 : BitVec 32 := Scalar.xori v2 c4_i32_286
  let c1_i32_289 : BitVec 32 := 1#32
  let v414 : BitVec 32 := Scalar.muli v413 c1_i32_289
  let v415 : BitVec 32 := Scalar.addi c0_i32_290 v414
  v415.toNat
def k0_off29 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_278 : BitVec 32 := 96#32
  let v395 : BitVec 32 := Scalar.muli v5 c96_i32_278
  let v396 : BitVec 32 := Scalar.addi v102 v395
  let c2_i32 : BitVec 32 := 2#32
  let v6 : BitVec 32 := Scalar.shrsi v2 c2_i32
  let c1_i32_3 : BitVec 32 := 1#32
  let v7 : BitVec 32 := Scalar.andi v6 c1_i32_3
  let c48_i32_293 : BitVec 32 := 48#32
  let v422 : BitVec 32 := Scalar.muli v7 c48_i32_293
  let v423 : BitVec 32 := Scalar.addi v396 v422
  let v424 : Index := Scalar.indexCast v423
  let c0_294 : Index := 0#32
  ![v424.toNat, 0]
def k0_off30 (d0 : Dev nD) : Fin 2 → Nat :=
  let c192_i32_295 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c48_i32_293 : BitVec 32 := 48#32
  let v422 : BitVec 32 := Scalar.muli v7 c48_i32_293
  let v427 : BitVec 32 := Scalar.addi c192_i32_295 v422
  let v428 : Index := Scalar.indexCast v427
  let c0_296 : Index := 0#32
  ![v428.toNat, 0]
def k0_off31 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_311 : BitVec 32 := 96#32
  let v444 : BitVec 32 := Scalar.muli v7 c96_i32_311
  let v445 : BitVec 32 := Scalar.addi v151 v444
  let c1_i32_312 : BitVec 32 := 1#32
  let c1_i32_0 : BitVec 32 := 1#32
  let v3 : BitVec 32 := Scalar.andi v2 c1_i32_0
  let v8 : BitVec 32 := Scalar.xori v3 v5
  let v446 : BitVec 32 := Scalar.subi c1_i32_312 v8
  let c48_i32_313 : BitVec 32 := 48#32
  let v447 : BitVec 32 := Scalar.muli v446 c48_i32_313
  let v448 : BitVec 32 := Scalar.addi v445 v447
  let v449 : Index := Scalar.indexCast v448
  let c0_314 : Index := 0#32
  ![v449.toNat, 0]
def k0_off32 (d0 : Dev nD) : Fin 2 → Nat :=
  let c808_i32_315 : BitVec 32 := 808#32
  let c1_i32_312 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v446 : BitVec 32 := Scalar.subi c1_i32_312 v8
  let c48_i32_313 : BitVec 32 := 48#32
  let v447 : BitVec 32 := Scalar.muli v446 c48_i32_313
  let v452 : BitVec 32 := Scalar.addi c808_i32_315 v447
  let v453 : Index := Scalar.indexCast v452
  let c0_316 : Index := 0#32
  ![v453.toNat, 0]
def k0_off33 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_311 : BitVec 32 := 96#32
  let v444 : BitVec 32 := Scalar.muli v7 c96_i32_311
  let v445 : BitVec 32 := Scalar.addi v151 v444
  let c1_i32_318 : BitVec 32 := 1#32
  let c1_i32_0 : BitVec 32 := 1#32
  let v3 : BitVec 32 := Scalar.andi v2 c1_i32_0
  let v8 : BitVec 32 := Scalar.xori v3 v5
  let v459 : BitVec 32 := Scalar.subi c1_i32_318 v8
  let c48_i32_319 : BitVec 32 := 48#32
  let v460 : BitVec 32 := Scalar.muli v459 c48_i32_319
  let v461 : BitVec 32 := Scalar.addi v445 v460
  let c0_i32_325 : BitVec 32 := 0#32
  ![v461.toNat, 0]
def k0_dev17 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_320 : BitVec 32 := 1#32
  let v462 : BitVec 32 := Scalar.xori v2 c1_i32_320
  let c1_i32_322 : BitVec 32 := 1#32
  let v463 : BitVec 32 := Scalar.muli v462 c1_i32_322
  let v464 : BitVec 32 := Scalar.addi c0_i32_323 v463
  v464.toNat
def k0_off34 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_311 : BitVec 32 := 96#32
  let v444 : BitVec 32 := Scalar.muli v7 c96_i32_311
  let v445 : BitVec 32 := Scalar.addi v151 v444
  let c1_i32_0 : BitVec 32 := 1#32
  let v3 : BitVec 32 := Scalar.andi v2 c1_i32_0
  let v8 : BitVec 32 := Scalar.xori v3 v5
  let c48_i32_326 : BitVec 32 := 48#32
  let v471 : BitVec 32 := Scalar.muli v8 c48_i32_326
  let v472 : BitVec 32 := Scalar.addi v445 v471
  let v473 : Index := Scalar.indexCast v472
  let c0_327 : Index := 0#32
  ![v473.toNat, 0]
def k0_off35 (d0 : Dev nD) : Fin 2 → Nat :=
  let c808_i32_328 : BitVec 32 := 808#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c48_i32_326 : BitVec 32 := 48#32
  let v471 : BitVec 32 := Scalar.muli v8 c48_i32_326
  let v476 : BitVec 32 := Scalar.addi c808_i32_328 v471
  let v477 : Index := Scalar.indexCast v476
  let c0_329 : Index := 0#32
  ![v477.toNat, 0]
def k0_off36 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_344 : BitVec 32 := 80#32
  let v493 : BitVec 32 := Scalar.muli v8 c80_i32_344
  let v494 : BitVec 32 := Scalar.addi v200 v493
  let c1_i32_345 : BitVec 32 := 1#32
  let v495 : BitVec 32 := Scalar.subi c1_i32_345 v5
  let c40_i32 : BitVec 32 := 40#32
  let v496 : BitVec 32 := Scalar.muli v495 c40_i32
  let v497 : BitVec 32 := Scalar.addi v494 v496
  let v498 : Index := Scalar.indexCast v497
  let c0_346 : Index := 0#32
  ![v498.toNat, 0]
def k0_off37 (d0 : Dev nD) (c1392_i32_347 : BitVec 32) (c1_i32_1 : BitVec 32) : Fin 2 → Nat :=
  let c1_i32_345 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let v495 : BitVec 32 := Scalar.subi c1_i32_345 v5
  let c40_i32 : BitVec 32 := 40#32
  let v496 : BitVec 32 := Scalar.muli v495 c40_i32
  let v501 : BitVec 32 := Scalar.addi c1392_i32_347 v496
  let v502 : Index := Scalar.indexCast v501
  let c0_348 : Index := 0#32
  ![v502.toNat, 0]
def k0_off37_at (r : Fin 3) : BitVec 32 × BitVec 32 :=
  if r.val < 1 then
    (1392#32, 1#32)
  else
    if r.val < 2 then
      (496#32, 2#32)
    else
      (1672#32, 1#32)
def k0_off38 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_344 : BitVec 32 := 80#32
  let v493 : BitVec 32 := Scalar.muli v8 c80_i32_344
  let v494 : BitVec 32 := Scalar.addi v200 v493
  let c1_i32_350 : BitVec 32 := 1#32
  let v508 : BitVec 32 := Scalar.subi c1_i32_350 v5
  let c40_i32_351 : BitVec 32 := 40#32
  let v509 : BitVec 32 := Scalar.muli v508 c40_i32_351
  let v510 : BitVec 32 := Scalar.addi v494 v509
  let c0_i32_357 : BitVec 32 := 0#32
  ![v510.toNat, 0]
def k0_dev18 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v511 : BitVec 32 := Scalar.xori v2 c3_i32_352
  let c1_i32_354 : BitVec 32 := 1#32
  let v512 : BitVec 32 := Scalar.muli v511 c1_i32_354
  let v513 : BitVec 32 := Scalar.addi c0_i32_355 v512
  v513.toNat
def k0_off39 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_344 : BitVec 32 := 80#32
  let v493 : BitVec 32 := Scalar.muli v8 c80_i32_344
  let v494 : BitVec 32 := Scalar.addi v200 v493
  let c40_i32_358 : BitVec 32 := 40#32
  let v520 : BitVec 32 := Scalar.muli v5 c40_i32_358
  let v521 : BitVec 32 := Scalar.addi v494 v520
  let v522 : Index := Scalar.indexCast v521
  let c0_359 : Index := 0#32
  ![v522.toNat, 0]
def k0_off40 (d0 : Dev nD) (c1392_i32_360 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c40_i32_358 : BitVec 32 := 40#32
  let v520 : BitVec 32 := Scalar.muli v5 c40_i32_358
  let v525 : BitVec 32 := Scalar.addi c1392_i32_360 v520
  let v526 : Index := Scalar.indexCast v525
  let c0_361 : Index := 0#32
  ![v526.toNat, 0]
def k0_off40_at (r : Fin 3) : BitVec 32 × BitVec 32 :=
  if r.val < 1 then
    (1392#32, 1#32)
  else
    if r.val < 2 then
      (496#32, 2#32)
    else
      (1672#32, 1#32)
def k0_off41 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_376 : BitVec 32 := 80#32
  let v542 : BitVec 32 := Scalar.muli v5 c80_i32_376
  let v543 : BitVec 32 := Scalar.addi v249 v542
  let c1_i32_377 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v544 : BitVec 32 := Scalar.subi c1_i32_377 v7
  let c40_i32_378 : BitVec 32 := 40#32
  let v545 : BitVec 32 := Scalar.muli v544 c40_i32_378
  let v546 : BitVec 32 := Scalar.addi v543 v545
  let v547 : Index := Scalar.indexCast v546
  let c0_379 : Index := 0#32
  ![v547.toNat, 0]
def k0_off42 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_376 : BitVec 32 := 80#32
  let v542 : BitVec 32 := Scalar.muli v5 c80_i32_376
  let v543 : BitVec 32 := Scalar.addi v249 v542
  let c1_i32_383 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v557 : BitVec 32 := Scalar.subi c1_i32_383 v7
  let c40_i32_384 : BitVec 32 := 40#32
  let v558 : BitVec 32 := Scalar.muli v557 c40_i32_384
  let v559 : BitVec 32 := Scalar.addi v543 v558
  let c0_i32_391 : BitVec 32 := 0#32
  ![v559.toNat, 0]
def k0_dev19 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_385 : BitVec 32 := 4#32
  let v560 : BitVec 32 := Scalar.xori v2 c4_i32_385
  let c1_i32_388 : BitVec 32 := 1#32
  let v561 : BitVec 32 := Scalar.muli v560 c1_i32_388
  let v562 : BitVec 32 := Scalar.addi c0_i32_389 v561
  v562.toNat
def k0_off43 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_376 : BitVec 32 := 80#32
  let v542 : BitVec 32 := Scalar.muli v5 c80_i32_376
  let v543 : BitVec 32 := Scalar.addi v249 v542
  let c2_i32 : BitVec 32 := 2#32
  let v6 : BitVec 32 := Scalar.shrsi v2 c2_i32
  let c1_i32_3 : BitVec 32 := 1#32
  let v7 : BitVec 32 := Scalar.andi v6 c1_i32_3
  let c40_i32_392 : BitVec 32 := 40#32
  let v569 : BitVec 32 := Scalar.muli v7 c40_i32_392
  let v570 : BitVec 32 := Scalar.addi v543 v569
  let v571 : Index := Scalar.indexCast v570
  let c0_393 : Index := 0#32
  ![v571.toNat, 0]
def k0_off44 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_410 : BitVec 32 := 80#32
  let v591 : BitVec 32 := Scalar.muli v7 c80_i32_410
  let v592 : BitVec 32 := Scalar.addi v298 v591
  let c1_i32_411 : BitVec 32 := 1#32
  let c1_i32_0 : BitVec 32 := 1#32
  let v3 : BitVec 32 := Scalar.andi v2 c1_i32_0
  let v8 : BitVec 32 := Scalar.xori v3 v5
  let v593 : BitVec 32 := Scalar.subi c1_i32_411 v8
  let c40_i32_412 : BitVec 32 := 40#32
  let v594 : BitVec 32 := Scalar.muli v593 c40_i32_412
  let v595 : BitVec 32 := Scalar.addi v592 v594
  let v596 : Index := Scalar.indexCast v595
  let c0_413 : Index := 0#32
  ![v596.toNat, 0]
def k0_off45 (d0 : Dev nD) : Fin 2 → Nat :=
  let c1112_i32_414 : BitVec 32 := 1112#32
  let c1_i32_411 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v593 : BitVec 32 := Scalar.subi c1_i32_411 v8
  let c40_i32_412 : BitVec 32 := 40#32
  let v594 : BitVec 32 := Scalar.muli v593 c40_i32_412
  let v599 : BitVec 32 := Scalar.addi c1112_i32_414 v594
  let v600 : Index := Scalar.indexCast v599
  let c0_415 : Index := 0#32
  ![v600.toNat, 0]
def k0_off46 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_410 : BitVec 32 := 80#32
  let v591 : BitVec 32 := Scalar.muli v7 c80_i32_410
  let v592 : BitVec 32 := Scalar.addi v298 v591
  let c1_i32_417 : BitVec 32 := 1#32
  let c1_i32_0 : BitVec 32 := 1#32
  let v3 : BitVec 32 := Scalar.andi v2 c1_i32_0
  let v8 : BitVec 32 := Scalar.xori v3 v5
  let v606 : BitVec 32 := Scalar.subi c1_i32_417 v8
  let c40_i32_418 : BitVec 32 := 40#32
  let v607 : BitVec 32 := Scalar.muli v606 c40_i32_418
  let v608 : BitVec 32 := Scalar.addi v592 v607
  let c0_i32_424 : BitVec 32 := 0#32
  ![v608.toNat, 0]
def k0_dev20 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_419 : BitVec 32 := 1#32
  let v609 : BitVec 32 := Scalar.xori v2 c1_i32_419
  let c1_i32_421 : BitVec 32 := 1#32
  let v610 : BitVec 32 := Scalar.muli v609 c1_i32_421
  let v611 : BitVec 32 := Scalar.addi c0_i32_422 v610
  v611.toNat
def k0_off47 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_410 : BitVec 32 := 80#32
  let v591 : BitVec 32 := Scalar.muli v7 c80_i32_410
  let v592 : BitVec 32 := Scalar.addi v298 v591
  let c1_i32_0 : BitVec 32 := 1#32
  let v3 : BitVec 32 := Scalar.andi v2 c1_i32_0
  let v8 : BitVec 32 := Scalar.xori v3 v5
  let c40_i32_425 : BitVec 32 := 40#32
  let v618 : BitVec 32 := Scalar.muli v8 c40_i32_425
  let v619 : BitVec 32 := Scalar.addi v592 v618
  let v620 : Index := Scalar.indexCast v619
  let c0_426 : Index := 0#32
  ![v620.toNat, 0]
def k0_off48 (d0 : Dev nD) : Fin 2 → Nat :=
  let c1112_i32_427 : BitVec 32 := 1112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c40_i32_425 : BitVec 32 := 40#32
  let v618 : BitVec 32 := Scalar.muli v8 c40_i32_425
  let v623 : BitVec 32 := Scalar.addi c1112_i32_427 v618
  let v624 : Index := Scalar.indexCast v623
  let c0_428 : Index := 0#32
  ![v624.toNat, 0]
def k0_dev21 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_452 : BitVec 32 := 3#32
  let v658 : BitVec 32 := Scalar.xori v2 c3_i32_452
  let c1_i32_454 : BitVec 32 := 1#32
  let v659 : BitVec 32 := Scalar.muli v658 c1_i32_454
  let v660 : BitVec 32 := Scalar.addi c0_i32_455 v659
  v660.toNat
def k0_off49 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_278 : BitVec 32 := 96#32
  let v395 : BitVec 32 := Scalar.muli v5 c96_i32_278
  let v396 : BitVec 32 := Scalar.addi v102 v395
  let c2_i32 : BitVec 32 := 2#32
  let v6 : BitVec 32 := Scalar.shrsi v2 c2_i32
  let c1_i32_3 : BitVec 32 := 1#32
  let v7 : BitVec 32 := Scalar.andi v6 c1_i32_3
  let c48_i32_476 : BitVec 32 := 48#32
  let v689 : BitVec 32 := Scalar.muli v7 c48_i32_476
  let v690 : BitVec 32 := Scalar.addi v396 v689
  let c0_i32_485 : BitVec 32 := 0#32
  ![v690.toNat, 0]
def k0_dev22 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_480 : BitVec 32 := 4#32
  let v698 : BitVec 32 := Scalar.xori v2 c4_i32_480
  let c1_i32_483 : BitVec 32 := 1#32
  let v699 : BitVec 32 := Scalar.muli v698 c1_i32_483
  let v700 : BitVec 32 := Scalar.addi c0_i32_484 v699
  v700.toNat
def k0_off50 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_311 : BitVec 32 := 96#32
  let v444 : BitVec 32 := Scalar.muli v7 c96_i32_311
  let v445 : BitVec 32 := Scalar.addi v151 v444
  let c1_i32_0 : BitVec 32 := 1#32
  let v3 : BitVec 32 := Scalar.andi v2 c1_i32_0
  let v8 : BitVec 32 := Scalar.xori v3 v5
  let c48_i32_500 : BitVec 32 := 48#32
  let v717 : BitVec 32 := Scalar.muli v8 c48_i32_500
  let v718 : BitVec 32 := Scalar.addi v445 v717
  let c0_i32_508 : BitVec 32 := 0#32
  ![v718.toNat, 0]
def k0_dev23 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_504 : BitVec 32 := 1#32
  let v726 : BitVec 32 := Scalar.xori v2 c1_i32_504
  let c1_i32_506 : BitVec 32 := 1#32
  let v727 : BitVec 32 := Scalar.muli v726 c1_i32_506
  let v728 : BitVec 32 := Scalar.addi c0_i32_507 v727
  v728.toNat
def k0_off51 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_344 : BitVec 32 := 80#32
  let v493 : BitVec 32 := Scalar.muli v8 c80_i32_344
  let v494 : BitVec 32 := Scalar.addi v200 v493
  let c40_i32_523 : BitVec 32 := 40#32
  let v745 : BitVec 32 := Scalar.muli v5 c40_i32_523
  let v746 : BitVec 32 := Scalar.addi v494 v745
  let c0_i32_531 : BitVec 32 := 0#32
  ![v746.toNat, 0]
def k0_dev24 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_527 : BitVec 32 := 3#32
  let v754 : BitVec 32 := Scalar.xori v2 c3_i32_527
  let c1_i32_529 : BitVec 32 := 1#32
  let v755 : BitVec 32 := Scalar.muli v754 c1_i32_529
  let v756 : BitVec 32 := Scalar.addi c0_i32_530 v755
  v756.toNat
def k0_off52 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_376 : BitVec 32 := 80#32
  let v542 : BitVec 32 := Scalar.muli v5 c80_i32_376
  let v543 : BitVec 32 := Scalar.addi v249 v542
  let c2_i32 : BitVec 32 := 2#32
  let v6 : BitVec 32 := Scalar.shrsi v2 c2_i32
  let c1_i32_3 : BitVec 32 := 1#32
  let v7 : BitVec 32 := Scalar.andi v6 c1_i32_3
  let c40_i32_546 : BitVec 32 := 40#32
  let v773 : BitVec 32 := Scalar.muli v7 c40_i32_546
  let v774 : BitVec 32 := Scalar.addi v543 v773
  let c0_i32_554 : BitVec 32 := 0#32
  ![v774.toNat, 0]
def k0_dev25 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_550 : BitVec 32 := 4#32
  let v782 : BitVec 32 := Scalar.xori v2 c4_i32_550
  let c1_i32_552 : BitVec 32 := 1#32
  let v783 : BitVec 32 := Scalar.muli v782 c1_i32_552
  let v784 : BitVec 32 := Scalar.addi c0_i32_553 v783
  v784.toNat
def k0_off53 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_410 : BitVec 32 := 80#32
  let v591 : BitVec 32 := Scalar.muli v7 c80_i32_410
  let v592 : BitVec 32 := Scalar.addi v298 v591
  let c1_i32_0 : BitVec 32 := 1#32
  let v3 : BitVec 32 := Scalar.andi v2 c1_i32_0
  let v8 : BitVec 32 := Scalar.xori v3 v5
  let c40_i32_569 : BitVec 32 := 40#32
  let v801 : BitVec 32 := Scalar.muli v8 c40_i32_569
  let v802 : BitVec 32 := Scalar.addi v592 v801
  let c0_i32_577 : BitVec 32 := 0#32
  ![v802.toNat, 0]
def k0_dev26 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_573 : BitVec 32 := 1#32
  let v810 : BitVec 32 := Scalar.xori v2 c1_i32_573
  let c1_i32_575 : BitVec 32 := 1#32
  let v811 : BitVec 32 := Scalar.muli v810 c1_i32_575
  let v812 : BitVec 32 := Scalar.addi c0_i32_576 v811
  v812.toNat
def k0_dev27 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_596 : BitVec 32 := 3#32
  let v838 : BitVec 32 := Scalar.xori v2 c3_i32_596
  let c1_i32_598 : BitVec 32 := 1#32
  let v839 : BitVec 32 := Scalar.muli v838 c1_i32_598
  let v840 : BitVec 32 := Scalar.addi c0_i32_599 v839
  v840.toNat
def k0_off54 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_278 : BitVec 32 := 96#32
  let v395 : BitVec 32 := Scalar.muli v5 c96_i32_278
  let v396 : BitVec 32 := Scalar.addi v102 v395
  let c2_i32 : BitVec 32 := 2#32
  let v6 : BitVec 32 := Scalar.shrsi v2 c2_i32
  let c1_i32_3 : BitVec 32 := 1#32
  let v7 : BitVec 32 := Scalar.andi v6 c1_i32_3
  let c48_i32_476 : BitVec 32 := 48#32
  let v689 : BitVec 32 := Scalar.muli v7 c48_i32_476
  let v690 : BitVec 32 := Scalar.addi v396 v689
  let c48_i32_613 : BitVec 32 := 48#32
  let v857 : BitVec 32 := Scalar.muli v7 c48_i32_613
  let v858 : BitVec 32 := Scalar.subi v690 v857
  let c0_i32_619 : BitVec 32 := 0#32
  ![v858.toNat, 0]
def k0_dev28 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_614 : BitVec 32 := 3#32
  let v859 : BitVec 32 := Scalar.xori v2 c3_i32_614
  let c1_i32_617 : BitVec 32 := 1#32
  let v860 : BitVec 32 := Scalar.muli v859 c1_i32_617
  let v861 : BitVec 32 := Scalar.addi c0_i32_618 v860
  v861.toNat
def k0_off55 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_311 : BitVec 32 := 96#32
  let v444 : BitVec 32 := Scalar.muli v7 c96_i32_311
  let v445 : BitVec 32 := Scalar.addi v151 v444
  let c1_i32_0 : BitVec 32 := 1#32
  let v3 : BitVec 32 := Scalar.andi v2 c1_i32_0
  let v8 : BitVec 32 := Scalar.xori v3 v5
  let c48_i32_500 : BitVec 32 := 48#32
  let v717 : BitVec 32 := Scalar.muli v8 c48_i32_500
  let v718 : BitVec 32 := Scalar.addi v445 v717
  let c48_i32_632 : BitVec 32 := 48#32
  let v878 : BitVec 32 := Scalar.muli v8 c48_i32_632
  let v879 : BitVec 32 := Scalar.subi v718 v878
  let c0_i32_637 : BitVec 32 := 0#32
  ![v879.toNat, 0]
def k0_dev29 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_633 : BitVec 32 := 4#32
  let v880 : BitVec 32 := Scalar.xori v2 c4_i32_633
  let c1_i32_635 : BitVec 32 := 1#32
  let v881 : BitVec 32 := Scalar.muli v880 c1_i32_635
  let v882 : BitVec 32 := Scalar.addi c0_i32_636 v881
  v882.toNat
def k0_off56 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_344 : BitVec 32 := 80#32
  let v493 : BitVec 32 := Scalar.muli v8 c80_i32_344
  let v494 : BitVec 32 := Scalar.addi v200 v493
  let c40_i32_523 : BitVec 32 := 40#32
  let v745 : BitVec 32 := Scalar.muli v5 c40_i32_523
  let v746 : BitVec 32 := Scalar.addi v494 v745
  let c40_i32_650 : BitVec 32 := 40#32
  let v899 : BitVec 32 := Scalar.muli v5 c40_i32_650
  let v900 : BitVec 32 := Scalar.subi v746 v899
  let c0_i32_655 : BitVec 32 := 0#32
  ![v900.toNat, 0]
def k0_dev30 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_651 : BitVec 32 := 1#32
  let v901 : BitVec 32 := Scalar.xori v2 c1_i32_651
  let c1_i32_653 : BitVec 32 := 1#32
  let v902 : BitVec 32 := Scalar.muli v901 c1_i32_653
  let v903 : BitVec 32 := Scalar.addi c0_i32_654 v902
  v903.toNat
def k0_off57 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_376 : BitVec 32 := 80#32
  let v542 : BitVec 32 := Scalar.muli v5 c80_i32_376
  let v543 : BitVec 32 := Scalar.addi v249 v542
  let c2_i32 : BitVec 32 := 2#32
  let v6 : BitVec 32 := Scalar.shrsi v2 c2_i32
  let c1_i32_3 : BitVec 32 := 1#32
  let v7 : BitVec 32 := Scalar.andi v6 c1_i32_3
  let c40_i32_546 : BitVec 32 := 40#32
  let v773 : BitVec 32 := Scalar.muli v7 c40_i32_546
  let v774 : BitVec 32 := Scalar.addi v543 v773
  let c40_i32_668 : BitVec 32 := 40#32
  let v920 : BitVec 32 := Scalar.muli v7 c40_i32_668
  let v921 : BitVec 32 := Scalar.subi v774 v920
  let c0_i32_673 : BitVec 32 := 0#32
  ![v921.toNat, 0]
def k0_dev31 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_669 : BitVec 32 := 3#32
  let v922 : BitVec 32 := Scalar.xori v2 c3_i32_669
  let c1_i32_671 : BitVec 32 := 1#32
  let v923 : BitVec 32 := Scalar.muli v922 c1_i32_671
  let v924 : BitVec 32 := Scalar.addi c0_i32_672 v923
  v924.toNat
def k0_off58 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_410 : BitVec 32 := 80#32
  let v591 : BitVec 32 := Scalar.muli v7 c80_i32_410
  let v592 : BitVec 32 := Scalar.addi v298 v591
  let c1_i32_0 : BitVec 32 := 1#32
  let v3 : BitVec 32 := Scalar.andi v2 c1_i32_0
  let v8 : BitVec 32 := Scalar.xori v3 v5
  let c40_i32_569 : BitVec 32 := 40#32
  let v801 : BitVec 32 := Scalar.muli v8 c40_i32_569
  let v802 : BitVec 32 := Scalar.addi v592 v801
  let c40_i32_686 : BitVec 32 := 40#32
  let v941 : BitVec 32 := Scalar.muli v8 c40_i32_686
  let v942 : BitVec 32 := Scalar.subi v802 v941
  let c0_i32_691 : BitVec 32 := 0#32
  ![v942.toNat, 0]
def k0_dev32 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_687 : BitVec 32 := 4#32
  let v943 : BitVec 32 := Scalar.xori v2 c4_i32_687
  let c1_i32_689 : BitVec 32 := 1#32
  let v944 : BitVec 32 := Scalar.muli v943 c1_i32_689
  let v945 : BitVec 32 := Scalar.addi c0_i32_690 v944
  v945.toNat
def k0_dev33 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_705 : BitVec 32 := 1#32
  let v964 : BitVec 32 := Scalar.xori v2 c1_i32_705
  let c1_i32_707 : BitVec 32 := 1#32
  let v965 : BitVec 32 := Scalar.muli v964 c1_i32_707
  let v966 : BitVec 32 := Scalar.addi c0_i32_708 v965
  v966.toNat
def k0_off59 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c192_i32_75 : BitVec 32 := 192#32
  let v101 : BitVec 32 := Scalar.muli v8 c192_i32_75
  let v102 : BitVec 32 := Scalar.addi c0_i32_76 v101
  let c96_i32_278 : BitVec 32 := 96#32
  let v395 : BitVec 32 := Scalar.muli v5 c96_i32_278
  let v396 : BitVec 32 := Scalar.addi v102 v395
  let c2_i32 : BitVec 32 := 2#32
  let v6 : BitVec 32 := Scalar.shrsi v2 c2_i32
  let c1_i32_3 : BitVec 32 := 1#32
  let v7 : BitVec 32 := Scalar.andi v6 c1_i32_3
  let c48_i32_476 : BitVec 32 := 48#32
  let v689 : BitVec 32 := Scalar.muli v7 c48_i32_476
  let v690 : BitVec 32 := Scalar.addi v396 v689
  let c48_i32_613 : BitVec 32 := 48#32
  let v857 : BitVec 32 := Scalar.muli v7 c48_i32_613
  let v858 : BitVec 32 := Scalar.subi v690 v857
  let c96_i32_722 : BitVec 32 := 96#32
  let v983 : BitVec 32 := Scalar.muli v5 c96_i32_722
  let v984 : BitVec 32 := Scalar.subi v858 v983
  let c0_i32_728 : BitVec 32 := 0#32
  ![v984.toNat, 0]
def k0_dev34 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_723 : BitVec 32 := 1#32
  let v985 : BitVec 32 := Scalar.xori v2 c1_i32_723
  let c1_i32_726 : BitVec 32 := 1#32
  let v986 : BitVec 32 := Scalar.muli v985 c1_i32_726
  let v987 : BitVec 32 := Scalar.addi c0_i32_727 v986
  v987.toNat
def k0_off60 (d0 : Dev nD) : Fin 2 → Nat :=
  let c704_i32_110 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_109 : BitVec 32 := 192#32
  let v150 : BitVec 32 := Scalar.muli v5 c192_i32_109
  let v151 : BitVec 32 := Scalar.addi c704_i32_110 v150
  let c2_i32 : BitVec 32 := 2#32
  let v6 : BitVec 32 := Scalar.shrsi v2 c2_i32
  let c1_i32_3 : BitVec 32 := 1#32
  let v7 : BitVec 32 := Scalar.andi v6 c1_i32_3
  let c96_i32_311 : BitVec 32 := 96#32
  let v444 : BitVec 32 := Scalar.muli v7 c96_i32_311
  let v445 : BitVec 32 := Scalar.addi v151 v444
  let c1_i32_0 : BitVec 32 := 1#32
  let v3 : BitVec 32 := Scalar.andi v2 c1_i32_0
  let v8 : BitVec 32 := Scalar.xori v3 v5
  let c48_i32_500 : BitVec 32 := 48#32
  let v717 : BitVec 32 := Scalar.muli v8 c48_i32_500
  let v718 : BitVec 32 := Scalar.addi v445 v717
  let c48_i32_632 : BitVec 32 := 48#32
  let v878 : BitVec 32 := Scalar.muli v8 c48_i32_632
  let v879 : BitVec 32 := Scalar.subi v718 v878
  let c96_i32_741 : BitVec 32 := 96#32
  let v1004 : BitVec 32 := Scalar.muli v7 c96_i32_741
  let v1005 : BitVec 32 := Scalar.subi v879 v1004
  let c0_i32_746 : BitVec 32 := 0#32
  ![v1005.toNat, 0]
def k0_dev35 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_742 : BitVec 32 := 3#32
  let v1006 : BitVec 32 := Scalar.xori v2 c3_i32_742
  let c1_i32_744 : BitVec 32 := 1#32
  let v1007 : BitVec 32 := Scalar.muli v1006 c1_i32_744
  let v1008 : BitVec 32 := Scalar.addi c0_i32_745 v1007
  v1008.toNat
def k0_off61 (d0 : Dev nD) (c1408_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_143 : BitVec 32 := 160#32
  let v199 : BitVec 32 := Scalar.muli v7 c160_i32_143
  let v200 : BitVec 32 := Scalar.addi c1408_i32_144 v199
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_344 : BitVec 32 := 80#32
  let v493 : BitVec 32 := Scalar.muli v8 c80_i32_344
  let v494 : BitVec 32 := Scalar.addi v200 v493
  let c40_i32_523 : BitVec 32 := 40#32
  let v745 : BitVec 32 := Scalar.muli v5 c40_i32_523
  let v746 : BitVec 32 := Scalar.addi v494 v745
  let c40_i32_650 : BitVec 32 := 40#32
  let v899 : BitVec 32 := Scalar.muli v5 c40_i32_650
  let v900 : BitVec 32 := Scalar.subi v746 v899
  let c80_i32_759 : BitVec 32 := 80#32
  let v1025 : BitVec 32 := Scalar.muli v8 c80_i32_759
  let v1026 : BitVec 32 := Scalar.subi v900 v1025
  let c0_i32_764 : BitVec 32 := 0#32
  ![v1026.toNat, 0]
def k0_dev36 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_760 : BitVec 32 := 4#32
  let v1027 : BitVec 32 := Scalar.xori v2 c4_i32_760
  let c1_i32_762 : BitVec 32 := 1#32
  let v1028 : BitVec 32 := Scalar.muli v1027 c1_i32_762
  let v1029 : BitVec 32 := Scalar.addi c0_i32_763 v1028
  v1029.toNat
def k0_off62 (d0 : Dev nD) : Fin 2 → Nat :=
  let c384_i32_177 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_176 : BitVec 32 := 160#32
  let v248 : BitVec 32 := Scalar.muli v8 c160_i32_176
  let v249 : BitVec 32 := Scalar.addi c384_i32_177 v248
  let c80_i32_376 : BitVec 32 := 80#32
  let v542 : BitVec 32 := Scalar.muli v5 c80_i32_376
  let v543 : BitVec 32 := Scalar.addi v249 v542
  let c2_i32 : BitVec 32 := 2#32
  let v6 : BitVec 32 := Scalar.shrsi v2 c2_i32
  let c1_i32_3 : BitVec 32 := 1#32
  let v7 : BitVec 32 := Scalar.andi v6 c1_i32_3
  let c40_i32_546 : BitVec 32 := 40#32
  let v773 : BitVec 32 := Scalar.muli v7 c40_i32_546
  let v774 : BitVec 32 := Scalar.addi v543 v773
  let c40_i32_668 : BitVec 32 := 40#32
  let v920 : BitVec 32 := Scalar.muli v7 c40_i32_668
  let v921 : BitVec 32 := Scalar.subi v774 v920
  let c80_i32_777 : BitVec 32 := 80#32
  let v1046 : BitVec 32 := Scalar.muli v5 c80_i32_777
  let v1047 : BitVec 32 := Scalar.subi v921 v1046
  let c0_i32_782 : BitVec 32 := 0#32
  ![v1047.toNat, 0]
def k0_dev37 (d0 : Dev nD) : Nat :=
  let c0_i32_781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_778 : BitVec 32 := 1#32
  let v1048 : BitVec 32 := Scalar.xori v2 c1_i32_778
  let c1_i32_780 : BitVec 32 := 1#32
  let v1049 : BitVec 32 := Scalar.muli v1048 c1_i32_780
  let v1050 : BitVec 32 := Scalar.addi c0_i32_781 v1049
  v1050.toNat
def k0_off63 (d0 : Dev nD) : Fin 2 → Nat :=
  let c1088_i32_211 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c160_i32_210 : BitVec 32 := 160#32
  let v297 : BitVec 32 := Scalar.muli v5 c160_i32_210
  let v298 : BitVec 32 := Scalar.addi c1088_i32_211 v297
  let c2_i32 : BitVec 32 := 2#32
  let v6 : BitVec 32 := Scalar.shrsi v2 c2_i32
  let c1_i32_3 : BitVec 32 := 1#32
  let v7 : BitVec 32 := Scalar.andi v6 c1_i32_3
  let c80_i32_410 : BitVec 32 := 80#32
  let v591 : BitVec 32 := Scalar.muli v7 c80_i32_410
  let v592 : BitVec 32 := Scalar.addi v298 v591
  let c1_i32_0 : BitVec 32 := 1#32
  let v3 : BitVec 32 := Scalar.andi v2 c1_i32_0
  let v8 : BitVec 32 := Scalar.xori v3 v5
  let c40_i32_569 : BitVec 32 := 40#32
  let v801 : BitVec 32 := Scalar.muli v8 c40_i32_569
  let v802 : BitVec 32 := Scalar.addi v592 v801
  let c40_i32_686 : BitVec 32 := 40#32
  let v941 : BitVec 32 := Scalar.muli v8 c40_i32_686
  let v942 : BitVec 32 := Scalar.subi v802 v941
  let c80_i32_795 : BitVec 32 := 80#32
  let v1067 : BitVec 32 := Scalar.muli v7 c80_i32_795
  let v1068 : BitVec 32 := Scalar.subi v942 v1067
  let c0_i32_800 : BitVec 32 := 0#32
  ![v1068.toNat, 0]
def k0_dev38 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_796 : BitVec 32 := 3#32
  let v1069 : BitVec 32 := Scalar.xori v2 c3_i32_796
  let c1_i32_798 : BitVec 32 := 1#32
  let v1070 : BitVec 32 := Scalar.muli v1069 c1_i32_798
  let v1071 : BitVec 32 := Scalar.addi c0_i32_799 v1070
  v1071.toNat
def k0_dev39 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_814 : BitVec 32 := 4#32
  let v1090 : BitVec 32 := Scalar.xori v2 c4_i32_814
  let c1_i32_816 : BitVec 32 := 1#32
  let v1091 : BitVec 32 := Scalar.muli v1090 c1_i32_816
  let v1092 : BitVec 32 := Scalar.addi c0_i32_817 v1091
  v1092.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x1024, .f32⟩
  | .hbm, ⟨2, _⟩ => ⟨S_, .f32⟩
  | .hbm, ⟨3, _⟩ => ⟨S2048x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geometry.lean ====
/-
The geometry of the all-reduce: which rows of the array each device holds at each stage, and that the kernel's
printed offsets and device numbers are those rows and those devices.

Eight devices form a cube with three axes; going across an axis changes exactly one of a device's three bits. The
2048 rows are cut into six chains. A chain is halved three times, each time along another axis: of the rows a device
still works on, it keeps the half its bit on that axis names and gives the other half to the device across.
-/
module

public import proofs.«01_k».proof.Proof.Gen.KernelIdeal
public import proofs.«01_k».proof.Proof.Gen.KernelIdeal.Skeleton
public import Idealize.ShloMosaic.Lib.Pipeline.Value

@[expose] public section

set_option maxRecDepth 16384

namespace Cert.AllReduce

open Cert.KernelIdeal Cert.KernelIdeal.Gen
open Idealize.ShloMosaic

set_option backward.proofsInPublic true in
/-- The device across axis `a`. -/
def flip (d : Dev nD) (a : Fin 3) : Dev nD := ⟨(d.val ^^^ ![1, 3, 4] a) % 8, Nat.mod_lt _ (by decide)⟩

/-- A device's bit on axis `a`. -/
def bit (d : Dev nD) (a : Fin 3) : ℕ := ![(d.val + d.val / 2) % 2, d.val / 2 % 2, d.val / 4 % 2] a

/-- The axis along which chain `c` is halved the `k`-th time. -/
def axis (c : Fin 6) (k : Fin 3) : Fin 3 := k + ![0, 0, 1, 1, 2, 2] c

/-- How many times chain `c` is halved before it is halved along axis `a`. -/
def turn (c : Fin 6) (a : Fin 3) : Fin 3 := a - ![0, 0, 1, 1, 2, 2] c

/-- The device across the `k`-th axis of chain `c`. -/
def peer (d : Dev nD) (c : Fin 6) (k : Fin 3) : Dev nD := flip d (axis c k)

/-- A chain's first row. -/
def base (c : Fin 6) : ℕ := ![0, 384, 704, 1088, 1408, 1728] c

/-- An eighth of a chain's rows. -/
def eighth (c : Fin 6) : ℕ := ![48, 40, 48, 40, 40, 40] c

/-- The rows of chain `c` a device keeps (and gives) at the `k`-th halving. -/
def sz (c : Fin 6) (k : Fin 3) : ℕ := eighth c * ![4, 2, 1] k

/-- How far into the rows it works on the half kept at the `k`-th halving starts. -/
def half (d : Dev nD) (c : Fin 6) (k : Fin 3) : ℕ := bit d (axis c k) * sz c k

/-- The first of the rows of chain `c` a device works on at the `k`-th halving. -/
def lead (d : Dev nD) (c : Fin 6) (k : Fin 3) : ℕ := base c + ![0, half d c 0, half d c 0 + half d c 1] k

/-- The first row of the half kept. -/
def keep (d : Dev nD) (c : Fin 6) (k : Fin 3) : ℕ := lead d c k + half d c k

/-- The first row of the half given. -/
def give (d : Dev nD) (c : Fin 6) (k : Fin 3) : ℕ := lead d c k + (sz c k - half d c k)

/-- The first scratch row the `k`-th receipt of chain `c` lands on. -/
def land (c : Fin 6) (k : Fin 3) : ℕ := ![0, 336, 616, 952, 1232, 1512] c + eighth c * ![0, 4, 6] k

/-! ## The cube -/

theorem flip_flip (d : Dev nD) (a : Fin 3) : flip (flip d a) a = d := by revert d a; decide +kernel
theorem peer_peer (d : Dev nD) (c : Fin 6) (k : Fin 3) : peer (peer d c k) c k = d := flip_flip d _
theorem turn_axis (c : Fin 6) (k : Fin 3) : turn c (axis c k) = k := by revert c k; decide +kernel
theorem axis_turn (c : Fin 6) (a : Fin 3) : axis c (turn c a) = a := by revert c a; decide +kernel
theorem peer_turn (d : Dev nD) (c : Fin 6) (a : Fin 3) : peer d c (turn c a) = flip d a := by unfold peer; rw [axis_turn]
theorem flip_ne (d : Dev nD) (a : Fin 3) : flip d a ≠ d := by revert d a; decide +kernel

theorem keep_peer (d : Dev nD) (c : Fin 6) (k : Fin 3) : keep (peer d c k) c k = give d c k := by
  revert d c k; decide +kernel
theorem give_peer (d : Dev nD) (c : Fin 6) (k : Fin 3) : give (peer d c k) c k = keep d c k := by
  revert d c k; decide +kernel
theorem lead_peer (d : Dev nD) (c : Fin 6) (k : Fin 3) : lead (peer d c k) c k = lead d c k := by
  revert d c k; decide +kernel

theorem lead_zero (d : Dev nD) (c : Fin 6) : lead d c 0 = base c := rfl
theorem lead_one (d : Dev nD) (c : Fin 6) : lead d c 1 = keep d c 0 := by revert d c; decide +kernel
theorem lead_two (d : Dev nD) (c : Fin 6) : lead d c 2 = keep d c 1 := by revert d c; decide +kernel

theorem sz_zero (c : Fin 6) : sz c 0 + sz c 0 = 8 * eighth c := by revert c; decide
theorem sz_one (c : Fin 6) : sz c 1 + sz c 1 = sz c 0 := by revert c; decide
theorem sz_two (c : Fin 6) : sz c 2 + sz c 2 = sz c 1 := by revert c; decide
theorem sz_pos (c : Fin 6) (k : Fin 3) : 0 < sz c k := by revert c k; decide

/-- The half kept and the half given are the two halves of the rows worked on, in one order or the other. -/
theorem keep_give (d : Dev nD) (c : Fin 6) (k : Fin 3) :
    (keep d c k = lead d c k ∧ give d c k = lead d c k + sz c k)
      ∨ (give d c k = lead d c k ∧ keep d c k = lead d c k + sz c k) := by
  revert d c k; decide +kernel

theorem keep_bound (d : Dev nD) (c : Fin 6) (k : Fin 3) : base c ≤ keep d c k ∧ keep d c k + sz c k ≤ base c + 8 * eighth c := by
  revert d c k; decide +kernel
theorem give_bound (d : Dev nD) (c : Fin 6) (k : Fin 3) : base c ≤ give d c k ∧ give d c k + sz c k ≤ base c + 8 * eighth c := by
  revert d c k; decide +kernel
theorem base_bound (c : Fin 6) : base c + 8 * eighth c ≤ 2048 := by revert c; decide
theorem land_bound (c : Fin 6) (k : Fin 3) : land c k + sz c k ≤ 1792 := by revert c k; decide

/-- The chain a row belongs to. -/
def chainOf (i : ℕ) : Fin 6 :=
  if i < 384 then 0 else if i < 704 then 1 else if i < 1088 then 2 else if i < 1408 then 3 else if i < 1728 then 4 else 5

theorem chainOf_eq {c : Fin 6} {i : ℕ} (h : base c ≤ i) (h' : i < base c + 8 * eighth c) : chainOf i = c := by
  unfold chainOf
  fin_cases c <;> simp [base, eighth] at h h' <;> (repeat' split) <;> first | rfl | omega

theorem chainOf_keep {d : Dev nD} {c : Fin 6} {k : Fin 3} {i : ℕ} (h : keep d c k ≤ i) (h' : i < keep d c k + sz c k) :
    chainOf i = c := by
  have := keep_bound d c k
  exact chainOf_eq (by omega) (by omega)
theorem chainOf_give {d : Dev nD} {c : Fin 6} {k : Fin 3} {i : ℕ} (h : give d c k ≤ i) (h' : i < give d c k + sz c k) :
    chainOf i = c := by
  have := give_bound d c k
  exact chainOf_eq (by omega) (by omega)

/-- The device whose kept rows, after the three halvings, include row `i`. -/
def owner (i : ℕ) : Dev nD :=
  ((List.finRange 8).find? fun d => decide (keep d (chainOf i) 2 ≤ i ∧ i < keep d (chainOf i) 2 + sz (chainOf i) 2)).getD 0

theorem keep_two_disjoint {d d' : Dev nD} {c : Fin 6} : d ≠ d' →
    keep d c 2 + sz c 2 ≤ keep d' c 2 ∨ keep d' c 2 + sz c 2 ≤ keep d c 2 := by
  revert d d' c; decide +kernel

theorem owner_eq {d : Dev nD} {c : Fin 6} {i : ℕ} (h : keep d c 2 ≤ i) (h' : i < keep d c 2 + sz c 2) : owner i = d := by
  unfold owner
  rw [chainOf_keep h h']
  cases hf : (List.finRange 8).find? fun d => decide (keep d c 2 ≤ i ∧ i < keep d c 2 + sz c 2) with
  | none =>
    have := List.find?_eq_none.mp hf d (List.mem_finRange d)
    exact absurd (decide_eq_true ⟨h, h'⟩) this
  | some d' =>
    have hd : keep d' c 2 ≤ i ∧ i < keep d' c 2 + sz c 2 := of_decide_eq_true (List.find?_some (p := fun d => decide (keep d c 2 ≤ i ∧ i < keep d c 2 + sz c 2)) hf)
    by_contra hne
    have := keep_two_disjoint (c := c) (fun e : d' = d => hne e)
    omega

/-! ## The printed device numbers -/

theorem dev1_eq (d : Dev nD) : (⟨k0_dev1 d, k0_dev1_lt d⟩ : Dev nD) = flip d 0 := by revert d; decide +kernel
theorem dev2_eq (d : Dev nD) : (⟨k0_dev2 d, k0_dev2_lt d⟩ : Dev nD) = flip d 1 := by revert d; decide +kernel
theorem dev3_eq (d : Dev nD) : (⟨k0_dev3 d, k0_dev3_lt d⟩ : Dev nD) = flip d 2 := by revert d; decide +kernel
theorem dev4_eq (d : Dev nD) : (⟨k0_dev4 d, k0_dev4_lt d⟩ : Dev nD) = peer d 0 0 := by revert d; decide +kernel
theorem dev5_eq (d : Dev nD) : (⟨k0_dev5 d, k0_dev5_lt d⟩ : Dev nD) = peer d 2 0 := by revert d; decide +kernel
theorem dev6_eq (d : Dev nD) : (⟨k0_dev6 d, k0_dev6_lt d⟩ : Dev nD) = peer d 4 0 := by revert d; decide +kernel
theorem dev7_eq (d : Dev nD) : (⟨k0_dev7 d, k0_dev7_lt d⟩ : Dev nD) = peer d 1 0 := by revert d; decide +kernel
theorem dev8_eq (d : Dev nD) : (⟨k0_dev8 d, k0_dev8_lt d⟩ : Dev nD) = peer d 3 0 := by revert d; decide +kernel
theorem dev9_eq (d : Dev nD) : (⟨k0_dev9 d, k0_dev9_lt d⟩ : Dev nD) = peer d 5 0 := by revert d; decide +kernel
theorem dev10_eq (d : Dev nD) : (⟨k0_dev10 d, k0_dev10_lt d⟩ : Dev nD) = peer d 0 1 := by revert d; decide +kernel
theorem dev11_eq (d : Dev nD) : (⟨k0_dev11 d, k0_dev11_lt d⟩ : Dev nD) = peer d 2 1 := by revert d; decide +kernel
theorem dev12_eq (d : Dev nD) : (⟨k0_dev12 d, k0_dev12_lt d⟩ : Dev nD) = peer d 4 1 := by revert d; decide +kernel
theorem dev13_eq (d : Dev nD) : (⟨k0_dev13 d, k0_dev13_lt d⟩ : Dev nD) = peer d 1 1 := by revert d; decide +kernel
theorem dev14_eq (d : Dev nD) : (⟨k0_dev14 d, k0_dev14_lt d⟩ : Dev nD) = peer d 3 1 := by revert d; decide +kernel
theorem dev15_eq (d : Dev nD) : (⟨k0_dev15 d, k0_dev15_lt d⟩ : Dev nD) = peer d 5 1 := by revert d; decide +kernel
theorem dev16_eq (d : Dev nD) : (⟨k0_dev16 d, k0_dev16_lt d⟩ : Dev nD) = peer d 0 2 := by revert d; decide +kernel
theorem dev17_eq (d : Dev nD) : (⟨k0_dev17 d, k0_dev17_lt d⟩ : Dev nD) = peer d 2 2 := by revert d; decide +kernel
theorem dev18_eq (d : Dev nD) : (⟨k0_dev18 d, k0_dev18_lt d⟩ : Dev nD) = peer d 4 2 := by revert d; decide +kernel
theorem dev19_eq (d : Dev nD) : (⟨k0_dev19 d, k0_dev19_lt d⟩ : Dev nD) = peer d 1 2 := by revert d; decide +kernel
theorem dev20_eq (d : Dev nD) : (⟨k0_dev20 d, k0_dev20_lt d⟩ : Dev nD) = peer d 3 2 := by revert d; decide +kernel
theorem dev21_eq (d : Dev nD) : (⟨k0_dev21 d, k0_dev21_lt d⟩ : Dev nD) = peer d 5 2 := by revert d; decide +kernel
theorem dev22_eq (d : Dev nD) : (⟨k0_dev22 d, k0_dev22_lt d⟩ : Dev nD) = peer d 0 2 := by revert d; decide +kernel
theorem dev23_eq (d : Dev nD) : (⟨k0_dev23 d, k0_dev23_lt d⟩ : Dev nD) = peer d 2 2 := by revert d; decide +kernel
theorem dev24_eq (d : Dev nD) : (⟨k0_dev24 d, k0_dev24_lt d⟩ : Dev nD) = peer d 4 2 := by revert d; decide +kernel
theorem dev25_eq (d : Dev nD) : (⟨k0_dev25 d, k0_dev25_lt d⟩ : Dev nD) = peer d 1 2 := by revert d; decide +kernel
theorem dev26_eq (d : Dev nD) : (⟨k0_dev26 d, k0_dev26_lt d⟩ : Dev nD) = peer d 3 2 := by revert d; decide +kernel
theorem dev27_eq (d : Dev nD) : (⟨k0_dev27 d, k0_dev27_lt d⟩ : Dev nD) = peer d 5 2 := by revert d; decide +kernel
theorem dev28_eq (d : Dev nD) : (⟨k0_dev28 d, k0_dev28_lt d⟩ : Dev nD) = peer d 0 1 := by revert d; decide +kernel
theorem dev29_eq (d : Dev nD) : (⟨k0_dev29 d, k0_dev29_lt d⟩ : Dev nD) = peer d 2 1 := by revert d; decide +kernel
theorem dev30_eq (d : Dev nD) : (⟨k0_dev30 d, k0_dev30_lt d⟩ : Dev nD) = peer d 4 1 := by revert d; decide +kernel
theorem dev31_eq (d : Dev nD) : (⟨k0_dev31 d, k0_dev31_lt d⟩ : Dev nD) = peer d 1 1 := by revert d; decide +kernel
theorem dev32_eq (d : Dev nD) : (⟨k0_dev32 d, k0_dev32_lt d⟩ : Dev nD) = peer d 3 1 := by revert d; decide +kernel
theorem dev33_eq (d : Dev nD) : (⟨k0_dev33 d, k0_dev33_lt d⟩ : Dev nD) = peer d 5 1 := by revert d; decide +kernel
theorem dev34_eq (d : Dev nD) : (⟨k0_dev34 d, k0_dev34_lt d⟩ : Dev nD) = peer d 0 0 := by revert d; decide +kernel
theorem dev35_eq (d : Dev nD) : (⟨k0_dev35 d, k0_dev35_lt d⟩ : Dev nD) = peer d 2 0 := by revert d; decide +kernel
theorem dev36_eq (d : Dev nD) : (⟨k0_dev36 d, k0_dev36_lt d⟩ : Dev nD) = peer d 4 0 := by revert d; decide +kernel
theorem dev37_eq (d : Dev nD) : (⟨k0_dev37 d, k0_dev37_lt d⟩ : Dev nD) = peer d 1 0 := by revert d; decide +kernel
theorem dev38_eq (d : Dev nD) : (⟨k0_dev38 d, k0_dev38_lt d⟩ : Dev nD) = peer d 3 0 := by revert d; decide +kernel
theorem dev39_eq (d : Dev nD) : (⟨k0_dev39 d, k0_dev39_lt d⟩ : Dev nD) = peer d 5 0 := by revert d; decide +kernel

/-! ## The printed offsets -/

theorem off1_eq (d : Dev nD) : k0_off1 d = ![give d 0 0, 0] := by revert d; decide +kernel
theorem off2_eq (d : Dev nD) : k0_off2 d = ![give d 2 0, 0] := by revert d; decide +kernel
theorem off3_1408_2_eq (d : Dev nD) : k0_off3 d 1408#32 2#32 = ![give d 4 0, 0] := by revert d; decide +kernel
theorem off4_eq (d : Dev nD) : k0_off4 d = ![give d 1 0, 0] := by revert d; decide +kernel
theorem off3_1088_1_eq (d : Dev nD) : k0_off3 d 1088#32 1#32 = ![give d 3 0, 0] := by revert d; decide +kernel
theorem off3_1728_2_eq (d : Dev nD) : k0_off3 d 1728#32 2#32 = ![give d 5 0, 0] := by revert d; decide +kernel
theorem off5_eq (d : Dev nD) : k0_off5 d = ![give d 0 1, 0] := by revert d; decide +kernel
theorem off6_0_1_eq (d : Dev nD) : k0_off6 d 0#32 1#32 = ![land 0 0 + (give d 0 1 - keep d 0 0), 0] := by revert d; decide +kernel
theorem off7_eq (d : Dev nD) : k0_off7 d = ![give d 0 1, 0] := by revert d; decide +kernel
theorem off8_eq (d : Dev nD) : k0_off8 d = ![keep d 0 1, 0] := by revert d; decide +kernel
theorem off9_0_1_eq (d : Dev nD) : k0_off9 d 0#32 1#32 = ![land 0 0 + (keep d 0 1 - keep d 0 0), 0] := by revert d; decide +kernel
theorem off10_eq (d : Dev nD) : k0_off10 d = ![give d 2 1, 0] := by revert d; decide +kernel
theorem off6_616_2_eq (d : Dev nD) : k0_off6 d 616#32 2#32 = ![land 2 0 + (give d 2 1 - keep d 2 0), 0] := by revert d; decide +kernel
theorem off11_eq (d : Dev nD) : k0_off11 d = ![give d 2 1, 0] := by revert d; decide +kernel
theorem off12_eq (d : Dev nD) : k0_off12 d = ![keep d 2 1, 0] := by revert d; decide +kernel
theorem off9_616_2_eq (d : Dev nD) : k0_off9 d 616#32 2#32 = ![land 2 0 + (keep d 2 1 - keep d 2 0), 0] := by revert d; decide +kernel
theorem off13_1408_eq (d : Dev nD) : k0_off13 d 1408#32 = ![give d 4 1, 0] := by revert d; decide +kernel
theorem off14_1232_eq (d : Dev nD) : k0_off14 d 1232#32 = ![land 4 0 + (give d 4 1 - keep d 4 0), 0] := by revert d; decide +kernel
theorem off15_1408_eq (d : Dev nD) : k0_off15 d 1408#32 = ![give d 4 1, 0] := by revert d; decide +kernel
theorem off16_1408_eq (d : Dev nD) : k0_off16 d 1408#32 = ![keep d 4 1, 0] := by revert d; decide +kernel
theorem off17_1232_eq (d : Dev nD) : k0_off17 d 1232#32 = ![land 4 0 + (keep d 4 1 - keep d 4 0), 0] := by revert d; decide +kernel
theorem off18_eq (d : Dev nD) : k0_off18 d = ![give d 1 1, 0] := by revert d; decide +kernel
theorem off19_336_1_eq (d : Dev nD) : k0_off19 d 336#32 1#32 = ![land 1 0 + (give d 1 1 - keep d 1 0), 0] := by revert d; decide +kernel
theorem off20_eq (d : Dev nD) : k0_off20 d = ![give d 1 1, 0] := by revert d; decide +kernel
theorem off21_eq (d : Dev nD) : k0_off21 d = ![keep d 1 1, 0] := by revert d; decide +kernel
theorem off22_336_1_eq (d : Dev nD) : k0_off22 d 336#32 1#32 = ![land 1 0 + (keep d 1 1 - keep d 1 0), 0] := by revert d; decide +kernel
theorem off23_eq (d : Dev nD) : k0_off23 d = ![give d 3 1, 0] := by revert d; decide +kernel
theorem off19_952_2_eq (d : Dev nD) : k0_off19 d 952#32 2#32 = ![land 3 0 + (give d 3 1 - keep d 3 0), 0] := by revert d; decide +kernel
theorem off24_eq (d : Dev nD) : k0_off24 d = ![give d 3 1, 0] := by revert d; decide +kernel
theorem off25_eq (d : Dev nD) : k0_off25 d = ![keep d 3 1, 0] := by revert d; decide +kernel
theorem off22_952_2_eq (d : Dev nD) : k0_off22 d 952#32 2#32 = ![land 3 0 + (keep d 3 1 - keep d 3 0), 0] := by revert d; decide +kernel
theorem off13_1728_eq (d : Dev nD) : k0_off13 d 1728#32 = ![give d 5 1, 0] := by revert d; decide +kernel
theorem off14_1512_eq (d : Dev nD) : k0_off14 d 1512#32 = ![land 5 0 + (give d 5 1 - keep d 5 0), 0] := by revert d; decide +kernel
theorem off15_1728_eq (d : Dev nD) : k0_off15 d 1728#32 = ![give d 5 1, 0] := by revert d; decide +kernel
theorem off16_1728_eq (d : Dev nD) : k0_off16 d 1728#32 = ![keep d 5 1, 0] := by revert d; decide +kernel
theorem off17_1512_eq (d : Dev nD) : k0_off17 d 1512#32 = ![land 5 0 + (keep d 5 1 - keep d 5 0), 0] := by revert d; decide +kernel
theorem off26_eq (d : Dev nD) : k0_off26 d = ![give d 0 2, 0] := by revert d; decide +kernel
theorem off27_eq (d : Dev nD) : k0_off27 d = ![land 0 1 + (give d 0 2 - keep d 0 1), 0] := by revert d; decide +kernel
theorem off28_eq (d : Dev nD) : k0_off28 d = ![give d 0 2, 0] := by revert d; decide +kernel
theorem off29_eq (d : Dev nD) : k0_off29 d = ![keep d 0 2, 0] := by revert d; decide +kernel
theorem off30_eq (d : Dev nD) : k0_off30 d = ![land 0 1 + (keep d 0 2 - keep d 0 1), 0] := by revert d; decide +kernel
theorem off31_eq (d : Dev nD) : k0_off31 d = ![give d 2 2, 0] := by revert d; decide +kernel
theorem off32_eq (d : Dev nD) : k0_off32 d = ![land 2 1 + (give d 2 2 - keep d 2 1), 0] := by revert d; decide +kernel
theorem off33_eq (d : Dev nD) : k0_off33 d = ![give d 2 2, 0] := by revert d; decide +kernel
theorem off34_eq (d : Dev nD) : k0_off34 d = ![keep d 2 2, 0] := by revert d; decide +kernel
theorem off35_eq (d : Dev nD) : k0_off35 d = ![land 2 1 + (keep d 2 2 - keep d 2 1), 0] := by revert d; decide +kernel
theorem off36_1408_eq (d : Dev nD) : k0_off36 d 1408#32 = ![give d 4 2, 0] := by revert d; decide +kernel
theorem off37_1392_1_eq (d : Dev nD) : k0_off37 d 1392#32 1#32 = ![land 4 1 + (give d 4 2 - keep d 4 1), 0] := by revert d; decide +kernel
theorem off38_1408_eq (d : Dev nD) : k0_off38 d 1408#32 = ![give d 4 2, 0] := by revert d; decide +kernel
theorem off39_1408_eq (d : Dev nD) : k0_off39 d 1408#32 = ![keep d 4 2, 0] := by revert d; decide +kernel
theorem off40_1392_1_eq (d : Dev nD) : k0_off40 d 1392#32 1#32 = ![land 4 1 + (keep d 4 2 - keep d 4 1), 0] := by revert d; decide +kernel
theorem off41_eq (d : Dev nD) : k0_off41 d = ![give d 1 2, 0] := by revert d; decide +kernel
theorem off37_496_2_eq (d : Dev nD) : k0_off37 d 496#32 2#32 = ![land 1 1 + (give d 1 2 - keep d 1 1), 0] := by revert d; decide +kernel
theorem off42_eq (d : Dev nD) : k0_off42 d = ![give d 1 2, 0] := by revert d; decide +kernel
theorem off43_eq (d : Dev nD) : k0_off43 d = ![keep d 1 2, 0] := by revert d; decide +kernel
theorem off40_496_2_eq (d : Dev nD) : k0_off40 d 496#32 2#32 = ![land 1 1 + (keep d 1 2 - keep d 1 1), 0] := by revert d; decide +kernel
theorem off44_eq (d : Dev nD) : k0_off44 d = ![give d 3 2, 0] := by revert d; decide +kernel
theorem off45_eq (d : Dev nD) : k0_off45 d = ![land 3 1 + (give d 3 2 - keep d 3 1), 0] := by revert d; decide +kernel
theorem off46_eq (d : Dev nD) : k0_off46 d = ![give d 3 2, 0] := by revert d; decide +kernel
theorem off47_eq (d : Dev nD) : k0_off47 d = ![keep d 3 2, 0] := by revert d; decide +kernel
theorem off48_eq (d : Dev nD) : k0_off48 d = ![land 3 1 + (keep d 3 2 - keep d 3 1), 0] := by revert d; decide +kernel
theorem off36_1728_eq (d : Dev nD) : k0_off36 d 1728#32 = ![give d 5 2, 0] := by revert d; decide +kernel
theorem off37_1672_1_eq (d : Dev nD) : k0_off37 d 1672#32 1#32 = ![land 5 1 + (give d 5 2 - keep d 5 1), 0] := by revert d; decide +kernel
theorem off38_1728_eq (d : Dev nD) : k0_off38 d 1728#32 = ![give d 5 2, 0] := by revert d; decide +kernel
theorem off39_1728_eq (d : Dev nD) : k0_off39 d 1728#32 = ![keep d 5 2, 0] := by revert d; decide +kernel
theorem off40_1672_1_eq (d : Dev nD) : k0_off40 d 1672#32 1#32 = ![land 5 1 + (keep d 5 2 - keep d 5 1), 0] := by revert d; decide +kernel
theorem off49_eq (d : Dev nD) : k0_off49 d = ![keep d 0 2, 0] := by revert d; decide +kernel
theorem off50_eq (d : Dev nD) : k0_off50 d = ![keep d 2 2, 0] := by revert d; decide +kernel
theorem off51_1408_eq (d : Dev nD) : k0_off51 d 1408#32 = ![keep d 4 2, 0] := by revert d; decide +kernel
theorem off52_eq (d : Dev nD) : k0_off52 d = ![keep d 1 2, 0] := by revert d; decide +kernel
theorem off53_eq (d : Dev nD) : k0_off53 d = ![keep d 3 2, 0] := by revert d; decide +kernel
theorem off51_1728_eq (d : Dev nD) : k0_off51 d 1728#32 = ![keep d 5 2, 0] := by revert d; decide +kernel
theorem off54_eq (d : Dev nD) : k0_off54 d = ![keep d 0 1, 0] := by revert d; decide +kernel
theorem off55_eq (d : Dev nD) : k0_off55 d = ![keep d 2 1, 0] := by revert d; decide +kernel
theorem off56_1408_eq (d : Dev nD) : k0_off56 d 1408#32 = ![keep d 4 1, 0] := by revert d; decide +kernel
theorem off57_eq (d : Dev nD) : k0_off57 d = ![keep d 1 1, 0] := by revert d; decide +kernel
theorem off58_eq (d : Dev nD) : k0_off58 d = ![keep d 3 1, 0] := by revert d; decide +kernel
theorem off56_1728_eq (d : Dev nD) : k0_off56 d 1728#32 = ![keep d 5 1, 0] := by revert d; decide +kernel
theorem off59_eq (d : Dev nD) : k0_off59 d = ![keep d 0 0, 0] := by revert d; decide +kernel
theorem off60_eq (d : Dev nD) : k0_off60 d = ![keep d 2 0, 0] := by revert d; decide +kernel
theorem off61_1408_eq (d : Dev nD) : k0_off61 d 1408#32 = ![keep d 4 0, 0] := by revert d; decide +kernel
theorem off62_eq (d : Dev nD) : k0_off62 d = ![keep d 1 0, 0] := by revert d; decide +kernel
theorem off63_eq (d : Dev nD) : k0_off63 d = ![keep d 3 0, 0] := by revert d; decide +kernel
theorem off61_1728_eq (d : Dev nD) : k0_off61 d 1728#32 = ![keep d 5 0, 0] := by revert d; decide +kernel

end Cert.AllReduce
-- ==== Proof.Regions.lean ====
/-
Rows of a device's buffers: what it is to hold some rows of a two-dimensional buffer at given contents, how such
holdings are cut and joined, and how a load, a store and a transfer act on them.

Contents are given by row and column number. The statements hold for any memref of 1024 columns.
-/
module

public import proofs.«01_k».proof.Proof.Geometry
public import Idealize.ShloMosaic.Lib.Pipeline.Launch
public import Idealize.ShloMosaic.Lib.Pipeline.Kit
public import Idealize.ShloMosaic.Lib.Tactic

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, and the all-reduce's, whose duties are named by the three axes. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The programs of a device's TensorCore. -/
abbrev TcProg (F : FTy → Type) (α : Type) : Type 1 := Prog (TpuEff nD τ sig (Elt F) Λ₀ .tc) α

/-- Device `d`'s TensorCore, running the program, ends with `Q`. -/
abbrev Runs (d : Dev nD) {α : Type} (p : TcProg F α) (Q : α → sProp 𝕄) : sProp 𝕄 :=
  wp frame (wpE (defs₀ (F := F)) 𝒱₀ (d : Thread nD τ) none) Set.univ p Q

/-- The shape of `n` rows. -/
abbrev RowsS (n : ℕ) : Shape := ⟨2, ![n, 1024]⟩

/-- Contents of an array by row and column number. -/
abbrev Tab (F : FTy → Type) : Type := ℕ → ℕ → Elt F .f32

/-- Rows `[lo, lo + n)` of a table, as a vector. -/
def rowsOf (w : Tab F) (lo n : ℕ) : (RowsS n).Idx → Elt F .f32 := fun j => w (lo + (j 0).val) (j 1).val

/-- The indices of rows `[lo, lo + n)`. -/
def rowSet (R lo n : ℕ) : Finset (RowsS R).Idx := Finset.univ.filter fun i => lo ≤ (i 0).val ∧ (i 0).val < lo + n

theorem mem_rowSet {R lo n : ℕ} {i : (RowsS R).Idx} : i ∈ rowSet R lo n ↔ lo ≤ (i 0).val ∧ (i 0).val < lo + n := by
  simp [rowSet]

theorem rowSet_add (R lo n n' : ℕ) : rowSet R lo (n + n') = rowSet R lo n ∪ rowSet R (lo + n) n' := by
  ext i; simp only [Finset.mem_union, mem_rowSet]; omega

theorem rowSet_disjoint (R lo n n' : ℕ) : Disjoint (rowSet R lo n) (rowSet R (lo + n) n') :=
  Finset.disjoint_left.mpr fun i h h' => by rw [mem_rowSet] at h h'; omega

theorem rowSet_sub {R lo n lo' n' : ℕ} (h : lo' ≤ lo) (h' : lo + n ≤ lo' + n') : rowSet R lo n ⊆ rowSet R lo' n' :=
  fun i hi => by rw [mem_rowSet] at hi ⊢; omega

theorem rowSet_all (R : ℕ) : rowSet R 0 R = Finset.univ := by
  ext i
  have h : (i 0).val < R := (i 0).isLt
  simp only [mem_rowSet, Finset.mem_univ, iff_true]
  omega

section Rect
variable {R lo n : ℕ} {off : Fin 2 → ℕ} (ho : off = ![lo, 0])
  {inb : ∀ a, off a + (![n, 1024] : Fin 2 → ℕ) a ≤ (RowsS R).size a}

include ho in
theorem rect_set : (Rect.unit (s := RowsS R) off ![n, 1024] inb).set = rowSet R lo n := by
  subst ho
  ext i
  have h1 : (i 1).val < 1024 := (i 1).isLt
  rw [Rect.mem_set_unit, Fin.forall_fin_two, mem_rowSet]
  simp only [Matrix.cons_val_zero, Matrix.cons_val_one]
  omega

include ho in
theorem rect_row (j : (RowsS n).Idx) : ((Rect.unit (s := RowsS R) off ![n, 1024] inb).idx j 0).val = lo + (j 0).val := by
  subst ho; simp
include ho in
theorem rect_col (j : (RowsS n).Idx) : ((Rect.unit (s := RowsS R) off ![n, 1024] inb).idx j 1).val = (j 1).val := by
  subst ho; simp
end Rect

section Rows
variable {R : ℕ} (m : Memref sig .tc .vmem (RowsS R) .f32) (d : Dev nD)

/-- Device `d` holds rows `[lo, lo + n)` of the memref, whatever their contents. -/
def anyRows (lo n : ℕ) : sProp 𝕄 :=
  iprop(∃ f : Buf (Elt F) (m.view.loc (d : Thread nD τ)), m.view.loc (d : Thread nD τ) ↦[m.view.setOn (rowSet R lo n)]{fullShare} f)

/-- Device `d` holds rows `[lo, lo + n)` of the memref, at the table's contents. -/
def rows (lo n : ℕ) (w : Tab F) : sProp 𝕄 :=
  iprop(∃ f : Buf (Elt F) (m.view.loc (d : Thread nD τ)),
    ⌜∀ i ∈ rowSet R lo n, m.view.read (Elt F) f i = w (i 0).val (i 1).val⌝
      ∗ m.view.loc (d : Thread nD τ) ↦[m.view.setOn (rowSet R lo n)]{fullShare} f)

instance anyRows_storable (lo n : ℕ) : BI.Storable (upEmb : UEmb _ 𝕄) (anyRows (F := F) m d lo n) := by
  unfold anyRows; infer_instance
instance rows_storable (lo n : ℕ) (w : Tab F) : BI.Storable (upEmb : UEmb _ 𝕄) (rows m d lo n w) := by
  unfold rows; infer_instance

theorem rows_any (lo n : ℕ) (w : Tab F) : rows m d lo n w ⊢ anyRows m d lo n := by
  unfold rows anyRows
  iintro ⟨%f, -, H⟩
  iexists f; iexact H

theorem rows_congr {lo n : ℕ} {w w' : Tab F} (h : ∀ i j, lo ≤ i → i < lo + n → w i j = w' i j) :
    rows m d lo n w ⊢ rows m d lo n w' := by
  unfold rows
  iintro ⟨%f, %hf, H⟩
  iexists f
  isplitr
  · ipureintro; intro i hi; rw [hf i hi]; rw [mem_rowSet] at hi; exact h _ _ hi.1 hi.2
  iexact H

theorem setOn_add (lo n n' : ℕ) :
    m.view.setOn (rowSet R lo (n + n')) = m.view.setOn (rowSet R lo n) ∪ m.view.setOn (rowSet R (lo + n) n') := by
  rw [rowSet_add]; exact Finset.map_union _ _

theorem setOn_disjoint (lo n n' : ℕ) : Disjoint (m.view.setOn (rowSet R lo n)) (m.view.setOn (rowSet R (lo + n) n')) :=
  (Finset.disjoint_map _).mpr (rowSet_disjoint R lo n n')

theorem any_split (lo n n' : ℕ) : anyRows (F := F) m d lo (n + n') ⊢ iprop(anyRows m d lo n ∗ anyRows m d (lo + n) n') := by
  unfold anyRows
  rw [setOn_add]
  iintro ⟨%f, H⟩
  ihave H := (pointsTo_union (setOn_disjoint m lo n n')).1 $$ H
  icases H with ⟨H1, H2⟩
  isplitl [H1]
  · iexists f; iexact H1
  · iexists f; iexact H2

theorem any_join (lo n n' : ℕ) : iprop(anyRows (F := F) m d lo n ∗ anyRows m d (lo + n) n') ⊢ anyRows m d lo (n + n') := by
  unfold anyRows
  rw [setOn_add]
  iintro ⟨⟨%f, H1⟩, ⟨%g, H2⟩⟩
  iexists _
  iapply (pointsTo_join (setOn_disjoint m lo n n'))
  isplitl [H1]; · iexact H1
  iexact H2

theorem rows_split (lo n n' : ℕ) (w : Tab F) :
    rows m d lo (n + n') w ⊢ iprop(rows m d lo n w ∗ rows m d (lo + n) n' w) := by
  unfold rows
  rw [setOn_add]
  iintro ⟨%f, %hf, H⟩
  ihave H := (pointsTo_union (setOn_disjoint m lo n n')).1 $$ H
  icases H with ⟨H1, H2⟩
  isplitl [H1]
  · iexists f
    isplitr; · (ipureintro; exact fun i hi => hf i (rowSet_add R lo n n' ▸ Finset.mem_union_left _ hi))
    iexact H1
  · iexists f
    isplitr; · (ipureintro; exact fun i hi => hf i (rowSet_add R lo n n' ▸ Finset.mem_union_right _ hi))
    iexact H2

theorem rows_join (lo n n' : ℕ) (w : Tab F) :
    iprop(rows m d lo n w ∗ rows m d (lo + n) n' w) ⊢ rows m d lo (n + n') w := by
  unfold rows
  rw [setOn_add]
  iintro ⟨⟨%f, %hf, H1⟩, ⟨%g, %hg, H2⟩⟩
  iexists _
  isplitr
  swap
  · iapply (pointsTo_join (setOn_disjoint m lo n n'))
    isplitl [H1]; · iexact H1
    iexact H2
  · ipureintro
    intro i hi
    by_cases hi' : i ∈ rowSet R (lo + n) n'
    · rw [← hg i hi']
      exact View.read_congr_at i (Finset.piecewise_eq_of_mem _ _ _ (m.view.mem_setOn.mpr hi'))
    · have h1 : i ∈ rowSet R lo n := by
        rw [rowSet_add] at hi; exact (Finset.mem_union.mp hi).resolve_right hi'
      rw [← hf i h1]
      exact View.read_congr_at i (Finset.piecewise_eq_of_notMem _ _ _ fun h => hi' (m.view.mem_setOn.mp h))

/-- Two halves in either order: the rows worked on are the half kept and the half given. -/
theorem any_halves {lo lo₁ lo₂ n N : ℕ} (hN : n + n = N) (h : (lo₁ = lo ∧ lo₂ = lo + n) ∨ (lo₂ = lo ∧ lo₁ = lo + n)) :
    anyRows (F := F) m d lo N ⊢ iprop(anyRows m d lo₁ n ∗ anyRows m d lo₂ n) := by
  subst hN
  rcases h with ⟨rfl, rfl⟩ | ⟨rfl, rfl⟩
  · exact any_split m d _ n n
  · exact (any_split m d _ n n).trans sep_comm.1

theorem any_unhalve {lo lo₁ lo₂ n N : ℕ} (hN : n + n = N) (h : (lo₁ = lo ∧ lo₂ = lo + n) ∨ (lo₂ = lo ∧ lo₁ = lo + n)) :
    iprop(anyRows (F := F) m d lo₁ n ∗ anyRows m d lo₂ n) ⊢ anyRows m d lo N := by
  subst hN
  rcases h with ⟨rfl, rfl⟩ | ⟨rfl, rfl⟩
  · exact any_join m d _ n n
  · exact sep_comm.1.trans (any_join m d _ n n)

theorem rows_halves {lo lo₁ lo₂ n N : ℕ} (hN : n + n = N) (h : (lo₁ = lo ∧ lo₂ = lo + n) ∨ (lo₂ = lo ∧ lo₁ = lo + n)) (w : Tab F) :
    rows m d lo N w ⊢ iprop(rows m d lo₁ n w ∗ rows m d lo₂ n w) := by
  subst hN
  rcases h with ⟨rfl, rfl⟩ | ⟨rfl, rfl⟩
  · exact rows_split m d _ n n w
  · exact (rows_split m d _ n n w).trans sep_comm.1

theorem rows_unhalve {lo lo₁ lo₂ n N : ℕ} (hN : n + n = N) (h : (lo₁ = lo ∧ lo₂ = lo + n) ∨ (lo₂ = lo ∧ lo₁ = lo + n)) (w : Tab F) :
    iprop(rows m d lo₁ n w ∗ rows m d lo₂ n w) ⊢ rows m d lo N w := by
  subst hN
  rcases h with ⟨rfl, rfl⟩ | ⟨rfl, rfl⟩
  · exact rows_join m d _ n n w
  · exact sep_comm.1.trans (rows_join m d _ n n w)

section Access
variable {lo n : ℕ} {off : Fin 2 → ℕ} (ho : off = ![lo, 0])
  {inb : ∀ a, off a + (![n, 1024] : Fin 2 → ℕ) a ≤ (RowsS R).size a}

include ho in
theorem slice_set : (m.view.slice (Rect.unit (s := RowsS R) off ![n, 1024] inb)).set = m.view.setOn (rowSet R lo n) := by
  rw [View.set_slice, rect_set ho]; rfl

include ho in
/-- Contents that are the table's on the rows read as the table's rows. -/
theorem slice_read {f : Buf (Elt F) (m.view.loc (d : Thread nD τ))} {w : Tab F}
    (hf : ∀ i ∈ rowSet R lo n, m.view.read (Elt F) f i = w (i 0).val (i 1).val) :
    (m.view.slice (Rect.unit (s := RowsS R) off ![n, 1024] inb)).read (Elt F) f = rowsOf w lo n := by
  funext j
  have hj : (Rect.unit (s := RowsS R) off ![n, 1024] inb).idx j ∈ rowSet R lo n := by
    rw [← rect_set ho (inb := inb)]; exact LoadRect.idx_mem _ _
  exact (hf _ hj).trans (by rw [rect_row ho, rect_col ho]; rfl)

include ho in
/-- Writing a table's rows leaves the table's contents on the rows. -/
theorem slice_write (f : Buf (Elt F) (m.view.loc (d : Thread nD τ))) {w : Tab F} {v : (RowsS n).Idx → Elt F .f32}
    (hv : v = rowsOf w lo n) :
    ∀ i ∈ rowSet R lo n, m.view.read (Elt F)
      ((m.view.slice (Rect.unit (s := RowsS R) off ![n, 1024] inb)).write (Elt F) f v Finset.univ) i = w (i 0).val (i 1).val := by
  intro i hi
  rw [← rect_set ho (inb := inb)] at hi
  obtain ⟨j, rfl⟩ := LoadRect.exists_idx_of_mem _ hi
  rw [rect_row ho, rect_col ho]
  exact (View.read_slice_write_emb (v := m.view) (Rect.unit (s := RowsS R) off ![n, 1024] inb) f v (Finset.mem_univ j)).trans (by rw [hv]; rfl)

include ho in
/-- The elements of a slice of rows, at contents that are the table's there, are the rows. -/
theorem slice_rows {f : Buf (Elt F) (m.view.loc (d : Thread nD τ))} {w : Tab F}
    (hf : ∀ i ∈ rowSet R lo n, m.view.read (Elt F) f i = w (i 0).val (i 1).val) :
    ((m.slice (Rect.unit (s := RowsS R) off ![n, 1024] inb) (fun _ => rfl)).view.loc (d : Thread nD τ)
        ↦[(m.slice (Rect.unit (s := RowsS R) off ![n, 1024] inb) (fun _ => rfl)).view.set]{fullShare} f)
      ⊢ rows m d lo n w := by
  unfold rows
  have hS := congrArg (fun S => (m.view.loc (d : Thread nD τ) ↦[S]{fullShare} f : sProp 𝕄)) (slice_set m ho (inb := inb))
  iintro H
  iexists f
  isplitr; · (ipureintro; exact hf)
  iapply (Entails.of_eq hS); iexact H

include ho in
theorem slice_any (f : Buf (Elt F) (m.view.loc (d : Thread nD τ))) :
    ((m.slice (Rect.unit (s := RowsS R) off ![n, 1024] inb) (fun _ => rfl)).view.loc (d : Thread nD τ)
        ↦[(m.slice (Rect.unit (s := RowsS R) off ![n, 1024] inb) (fun _ => rfl)).view.set]{fullShare} f)
      ⊢ anyRows m d lo n := by
  unfold anyRows
  have hS := congrArg (fun S => (m.view.loc (d : Thread nD τ) ↦[S]{fullShare} f : sProp 𝕄)) (slice_set m ho (inb := inb))
  iintro H
  iexists f
  iapply (Entails.of_eq hS); iexact H

include ho in
/-- A load of some of the rows held answers the table's rows there. -/
theorem load_rows {α : Type} {Q : α → sProp 𝕄} {lo' n' : ℕ} (hlo : lo' ≤ lo) (hn : lo + n ≤ lo' + n') {w : Tab F}
    {hl : m.view.LoadsAt (Rect.unit (s := RowsS R) off ![n, 1024] inb).toLoadRect}
    {k : ((RowsS n).Idx → Elt F .f32) → TcProg F α} :
    rows m d lo' n' w
      ⊢ iprop((rows m d lo' n' w -∗ Runs d (k (rowsOf w lo n)) Q)
          -∗ Runs d
              (Prog.op (.load m (Rect.unit (s := RowsS R) off ![n, 1024] inb).toLoadRect hl) k) Q) := by
  unfold rows
  iintro ⟨%f, %hf, H⟩ Hk
  have hs := rowSet_sub (R := R) hlo hn
  have hS : m.view.setOn (Rect.unit (s := RowsS R) off ![n, 1024] inb).set ⊆ m.view.setOn (rowSet R lo' n') := by
    rw [rect_set ho]; exact Finset.map_subset_map.mpr hs
  iapply (wp_load 𝒱₀ (d : Thread nD τ) none Set.univ (m := m) hS) $$ H
  iintro H
  rw [View.readAt_rect, slice_read m d ho (fun i hi => hf i (hs hi))]
  iapply Hk
  iexists f
  isplitr; · (ipureintro; exact hf)
  iexact H

include ho in
/-- A load of rows held at any contents answers something. -/
theorem load_any {α : Type} {Q : α → sProp 𝕄} {hl : m.view.LoadsAt (Rect.unit (s := RowsS R) off ![n, 1024] inb).toLoadRect}
    {k : ((RowsS n).Idx → Elt F .f32) → TcProg F α} :
    anyRows m d lo n
      ⊢ iprop((∀ v, anyRows m d lo n -∗ Runs d (k v) Q)
          -∗ Runs d
              (Prog.op (.load m (Rect.unit (s := RowsS R) off ![n, 1024] inb).toLoadRect hl) k) Q) := by
  unfold anyRows
  iintro ⟨%f, H⟩ Hk
  have hS : m.view.setOn (Rect.unit (s := RowsS R) off ![n, 1024] inb).set ⊆ m.view.setOn (rowSet R lo n) := by
    rw [rect_set ho]
  iapply (wp_load 𝒱₀ (d : Thread nD τ) none Set.univ (m := m) hS) $$ H
  iintro H
  iapply Hk
  iexists f
  iexact H

include ho in
/-- A store of a table's rows leaves the rows at the table's contents. -/
theorem store_rows {α : Type} {Q : α → sProp 𝕄} {w : Tab F} {v : (RowsS n).Idx → Elt F .f32} (hv : v = rowsOf w lo n)
    {hx : (m.access (Rect.unit (s := RowsS R) off ![n, 1024] inb)).Stores Finset.univ}
    {hm : (Finset.univ : Finset (RowsS n).Idx) = Finset.univ ∨ ∀ a, (Rect.unit (s := RowsS R) off ![n, 1024] inb).stride a = 1}
    {k : PUnit → TcProg F α} :
    anyRows m d lo n
      ⊢ iprop((rows m d lo n w -∗ Runs d (k ⟨⟩) Q)
          -∗ Runs d
              (Prog.op (.store m (Rect.unit (s := RowsS R) off ![n, 1024] inb) v Finset.univ hx hm) k) Q) := by
  unfold anyRows rows
  iintro ⟨%f, H⟩ Hk
  have hS : (m.access (Rect.unit (s := RowsS R) off ![n, 1024] inb)).setOn Finset.univ ⊆ m.view.setOn (rowSet R lo n) := by
    rw [View.setOn_univ, slice_set m ho]
  iapply (wp_store 𝒱₀ (d : Thread nD τ) none Set.univ (m := m) (r := Rect.unit (s := RowsS R) off ![n, 1024] inb) (Mk := Finset.univ) hS) $$ H
  iintro H
  iapply Hk
  iexists _
  isplitr
  swap
  · iexact H
  · ipureintro; exact slice_write m d ho f hv

end Access

end Rows

end Cert.AllReduce

end
-- ==== Proof.Protocol.lean ====
/-
The protocol: what is computed at each stage, and who waits for, signals and copies to each semaphore, in which order,
by how much, and with what handed over.

Stages 0 to 2 of a chain halve it (the reduce-scatter), stages 3 to 5 double it again (the all-gather). At stage `s` a
device sends the rows to the device across axis `stageAxis s` of the chain, and waits for its own transfer and for the
other device's.

* A device's BARRIER semaphore has one round of three units, one from the device across each axis. The device across
  axis `a` hands over the rows of its scratch (for the chains halved along `a` at some turn) and of its result (for the
  chains halved along `a` first) that the other device is to write.
* The SEND semaphore of a chain has six rounds, one per stage, each of the transfer's credit. Stage 0 returns the rows
  of the input that were read; stages 1 and 2 return nothing, as the rows that were read are handed on with the
  landing; stages 3 to 5 return the rows of the result that were read.
* The RECEIVE semaphore of a chain and stage has one round. Stages 0 to 2 hand over the scratch rows holding the other
  device's partial sums, stages 1 and 2 also the rows of the other device's result that it sent and that this device is
  to write in the all-gather; stages 3 to 5 hand over rows of the result holding the total.
-/
module

public import proofs.«01_k».proof.Proof.Regions

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

section Contents
variable (X : Dev nD → Tab F)

/-- A device's partial sums after `k` halvings: its own input, then at each halving its partial sum plus that of the
    device across. -/
def psum : ℕ → Dev nD → Tab F
  | 0, d => X d
  | k + 1, d => fun i j => FloatOps.addf (φ := .f32) (psum k d i j) (psum k (peer d (chainOf i) (Fin.ofNat 3 k)) i j)

/-- The result: every row as summed by the device that ends the halvings with it. -/
def total : Tab F := fun i j => psum X 3 (owner i) i j

theorem psum_succ {k : ℕ} {c : Fin 6} (d : Dev nD) {i : ℕ} (h : chainOf i = c) (j : ℕ) :
    psum X (k + 1) d i j = FloatOps.addf (φ := .f32) (psum X k d i j) (psum X k (peer d c (Fin.ofNat 3 k)) i j) := by
  subst h; rfl

theorem psum_total {d : Dev nD} {c : Fin 6} {i : ℕ} (h : keep d c 2 ≤ i) (h' : i < keep d c 2 + sz c 2) (j : ℕ) :
    psum X 3 d i j = total X i j := by
  unfold total; rw [owner_eq h h']

/-- A table moved so that row `b` comes to row `a`. -/
def shift (w : Tab F) (a b : ℕ) : Tab F := fun i j => w (i - a + b) j

theorem rowsOf_shift (w : Tab F) (a b t n : ℕ) : rowsOf (shift w a b) (a + t) n = rowsOf w (b + t) n := by
  funext j; unfold rowsOf shift; congr 1; omega

theorem rowsOf_shift' (w : Tab F) (a b n : ℕ) : rowsOf (shift w a b) a n = rowsOf w b n := rowsOf_shift w a b 0 n

/-- The sum, entry by entry, of rows of two partial sums is the rows of the next partial sum. -/
theorem rowsOf_psum_succ {k : ℕ} {c : Fin 6} (d : Dev nD) {lo n : ℕ}
    (h : ∀ i, lo ≤ i → i < lo + n → chainOf i = c) :
    addf (F := F) (φ := .f32) (rowsOf (psum X k d) lo n) (rowsOf (psum X k (peer d c (Fin.ofNat 3 k))) lo n)
      = rowsOf (psum X (k + 1) d) lo n := by
  funext j
  have hj : (j 0).val < n := (j 0).isLt
  exact (psum_succ X d (h _ (Nat.le_add_right _ _) (by omega)) _).symm

end Contents

/-! ## Buffers, semaphores and cells -/

abbrev xM : Memref sig .tc .vmem S2048x1024 .f32 := Memref.whole cc0_stg0_0
abbrev oM : Memref sig .tc .vmem S2048x1024 .f32 := Memref.whole cc0_stg1_0
abbrev sM : Memref sig .tc .vmem S1792x1024 .f32 := Memref.whole cc0_scratch0

/-- The runtime's barrier semaphore. -/
abbrev barS : Sem sig := (SemArray.scalar (sig.barrier 0 rfl) : Sems sig S_).sem

/-- A device's semaphores in the protocol: the barrier, six send semaphores, thirty-six receive semaphores. -/
def csem (i : Fin 43) : SemLoc sig :=
  if i.val = 0 then .reg barS else .dma (show Fin 44 from ⟨i.val + 1, by omega⟩)

def iSend (c : Fin 6) : Fin 43 := ⟨1 + c.val, by omega⟩
def iRecv (c s : Fin 6) : Fin 43 := ⟨7 + 6 * c.val + s.val, by omega⟩

abbrev kcell (ck : Dev nD × Fin 43) : GSem nD τ sig := ((ck.1 : Thread nD τ), csem ck.2)
abbrev barCell (d : Dev nD) : GSem nD τ sig := kcell (d, 0)
abbrev sendCell (d : Dev nD) (c : Fin 6) : GSem nD τ sig := kcell (d, iSend c)
abbrev recvCell (d : Dev nD) (c : Fin 6) (s : ℕ) : GSem nD τ sig := kcell (d, iRecv c (Fin.ofNat 6 s))

/-- What a semaphore is for. -/
inductive Role where
  | bar
  | send (c : Fin 6)
  | recv (c s : Fin 6)
  | other
  deriving DecidableEq

def dmaRole (q : Fin 44) : Role :=
  if q.val < 2 then .other
  else if q.val < 8 then .send (Fin.ofNat 6 (q.val - 2))
  else .recv (Fin.ofNat 6 ((q.val - 8) / 6)) (Fin.ofNat 6 ((q.val - 8) % 6))

def role : SemLoc sig → Role
  | .reg _ => .bar
  | .dma q => dmaRole q

theorem role_bar : role (csem 0) = .bar := rfl
theorem role_send (c : Fin 6) : role (csem (iSend c)) = .send c := by revert c; decide
theorem role_recv (c s : Fin 6) : role (csem (iRecv c s)) = .recv c s := by revert c s; decide
theorem csem_injective : Function.Injective csem := by decide +kernel

theorem kcell_injective : Function.Injective kcell := by
  rintro ⟨d, i⟩ ⟨d', i'⟩ h
  have h1 : d = d' := congrArg (fun g : GSem nD τ sig => g.1.1) h
  have h2 : i = i' := csem_injective (congrArg Prod.snd h)
  rw [h1, h2]

/-- Which of a chain's axes stage `s` goes across. -/
def stageAxis (s : ℕ) : Fin 3 := ![0, 1, 2, 2, 1, 0] (Fin.ofNat 6 s)

/-- The credit of a transfer of `n` rows. -/
def credit (n : ℕ) : ℕ := Ref.dmaCredit (sig := sig) cc0_scratch0 (RowsS n) .f32

/-- The credit of chain `c`'s transfer at stage `s`. -/
def amt (c : Fin 6) (s : ℕ) : ℕ := credit (sz c (stageAxis s))

theorem credit_pos {n : ℕ} (h : 0 < n) : 0 < credit n :=
  RefSig.dmaCredit_pos sig _ _ _ _ _ (Shape.numel_pos (Fin.forall_fin_two.mpr ⟨h, (by decide : 0 < 1024)⟩))
theorem amt_pos (c : Fin 6) (s : ℕ) : 0 < amt c s := credit_pos (sz_pos c _)

/-! ## The schedule -/

section Sched
variable (X : Dev nD → Tab F)

/-- The rows across the `k`-th axis of chain `c` that device `d` is to write into: the scratch rows of stage `k`, and
    for `k = 0` the rows of the result of the last stage. -/
def dstRows (d : Dev nD) (c : Fin 6) (k : Fin 3) : sProp 𝕄 :=
  iprop(anyRows sM (peer d c k) (land c k) (sz c k)
    ∗ (if k = 0 then anyRows oM (peer d c 0) (keep d c 0) (sz c 0) else emp))

/-- What the device across axis `a` hands to `d` with its barrier signal. -/
def barPay (d : Dev nD) (a : Fin 3) : sProp 𝕄 := bigSep Finset.univ fun c : Fin 6 => dstRows (F := F) d c (turn c a)

/-- What `d`'s own transfer of chain `c` at stage `s` returns. -/
def sendPay (d : Dev nD) (c : Fin 6) (s : ℕ) : sProp 𝕄 :=
  match s with
  | 0 => rows xM d (give d c 0) (sz c 0) (X d)
  | 3 => rows oM d (keep d c 2) (sz c 2) (total X)
  | 4 => rows oM d (keep d c 1) (sz c 1) (total X)
  | 5 => rows oM d (keep d c 0) (sz c 0) (total X)
  | _ => iprop(emp)

/-- The scratch rows of stage `k` holding the other device's partial sums of the rows `d` keeps. -/
def landed (d : Dev nD) (c : Fin 6) (k : Fin 3) : sProp 𝕄 :=
  rows sM d (land c k) (sz c k) (shift (psum X k.val (peer d c k)) (land c k) (keep d c k))

/-- The rows of the other device's result that `d` keeps, whatever they hold. -/
def theirs (d : Dev nD) (c : Fin 6) (k : Fin 3) : sProp 𝕄 := anyRows oM (peer d c k) (keep d c k) (sz c k)

/-- What the transfer of chain `c` at stage `s` to `d` hands over. -/
def recvPay (d : Dev nD) (c : Fin 6) (s : ℕ) : sProp 𝕄 :=
  match s with
  | 0 => landed X d c 0
  | 1 => iprop(landed X d c 1 ∗ theirs d c 1)
  | 2 => iprop(landed X d c 2 ∗ theirs d c 2)
  | 3 => rows oM d (give d c 2) (sz c 2) (total X)
  | 4 => rows oM d (give d c 1) (sz c 1) (total X)
  | 5 => rows oM d (give d c 0) (sz c 0) (total X)
  | _ => iprop(emp)

instance dstRows_storable (d : Dev nD) (c : Fin 6) (k : Fin 3) : BI.Storable (upEmb : UEmb _ 𝕄) (dstRows (F := F) d c k) := by
  unfold dstRows; split <;> infer_instance
instance barPay_storable (d : Dev nD) (a : Fin 3) : BI.Storable (upEmb : UEmb _ 𝕄) (barPay (F := F) d a) := by
  unfold barPay; infer_instance
instance sendPay_storable (d : Dev nD) (c : Fin 6) (s : ℕ) : BI.Storable (upEmb : UEmb _ 𝕄) (sendPay X d c s) := by
  unfold sendPay; split <;> infer_instance
instance recvPay_storable (d : Dev nD) (c : Fin 6) (s : ℕ) : BI.Storable (upEmb : UEmb _ 𝕄) (recvPay X d c s) := by
  unfold recvPay landed theirs; split <;> infer_instance

/-- The amount of a semaphore's round. -/
def roleAmt (ρ : Role) (r : ℕ) : ℕ :=
  match ρ with
  | .send c => amt c r
  | .recv c s => amt c s.val
  | _ => 1

theorem roleAmt_pos (ρ : Role) (r : ℕ) : 0 < roleAmt ρ r := by
  cases ρ <;> first | exact Nat.one_pos | exact amt_pos _ _

/-- The schedule. -/
def Rd : Rounds.Schedule (GSem nD τ sig) (Fin 3) 𝕄 where
  duties g r :=
    if g.1.2 = .tc then
      match role g.2 with
      | .bar => if r = 0 then Finset.univ else ∅
      | .send _ => if r < 6 then {0} else ∅
      | .recv _ _ => if r = 0 then {0} else ∅
      | .other => ∅
    else ∅
  unitless _ := False
  amount g r _ := roleAmt (role g.2) r
  payload g r a :=
    match role g.2 with
    | .bar => barPay g.1.1 a
    | .send c => sendPay X g.1.1 c r
    | .recv c s => recvPay X g.1.1 c s.val
    | .other => iprop(emp)
  amount_pos g r _ _ := roleAmt_pos _ _

instance Rd_payload_storable (g : GSem nD τ sig) (r : ℕ) (a : Fin 3) :
    BI.Storable (upEmb : UEmb _ 𝕄) ((Rd X).payload g r a) := by
  dsimp only [Rd]
  cases role g.2 <;> dsimp only <;> infer_instance

variable (d : Dev nD) (c : Fin 6)

theorem ofNat_val {s : ℕ} (hs : s < 6) : (Fin.ofNat 6 s).val = s := Nat.mod_eq_of_lt hs

theorem duties_bar : (Rd X).duties (barCell d) 0 = Finset.univ := rfl
theorem duties_bar_later (r : ℕ) (hr : 1 ≤ r) : (Rd X).duties (barCell d) r = ∅ := by
  dsimp only [Rd]; rw [if_pos rfl, role_bar]; exact if_neg (by omega)
theorem duties_send {r : ℕ} (hr : r < 6) : (Rd X).duties (sendCell d c) r = {0} := by
  dsimp only [Rd]; rw [if_pos rfl, role_send]; exact if_pos hr
theorem duties_send_later (r : ℕ) (hr : 6 ≤ r) : (Rd X).duties (sendCell d c) r = ∅ := by
  dsimp only [Rd]; rw [if_pos rfl, role_send]; exact if_neg (by omega)
theorem duties_recv (s : ℕ) : (Rd X).duties (recvCell d c s) 0 = {0} := by
  dsimp only [Rd]; rw [if_pos rfl, role_recv]; exact if_pos rfl
theorem duties_recv_later (s r : ℕ) (hr : 1 ≤ r) : (Rd X).duties (recvCell d c s) r = ∅ := by
  dsimp only [Rd]; rw [if_pos rfl, role_recv]; exact if_neg (by omega)

theorem amount_bar (r : ℕ) (a : Fin 3) : (Rd X).amount (barCell d) r a = 1 := rfl
theorem amount_send (r : ℕ) (a : Fin 3) : (Rd X).amount (sendCell d c) r a = amt c r := by
  dsimp only [Rd]; rw [role_send]; rfl
theorem amount_recv {s : ℕ} (hs : s < 6) (r : ℕ) (a : Fin 3) : (Rd X).amount (recvCell d c s) r a = amt c s := by
  dsimp only [Rd]; rw [role_recv]; dsimp only [roleAmt]; rw [ofNat_val hs]

theorem payload_bar (r : ℕ) (a : Fin 3) : (Rd X).payload (barCell d) r a = barPay d a := rfl
theorem payload_send (r : ℕ) (a : Fin 3) : (Rd X).payload (sendCell d c) r a = sendPay X d c r := by
  dsimp only [Rd]; rw [role_send]
theorem payload_recv {s : ℕ} (hs : s < 6) (r : ℕ) (a : Fin 3) : (Rd X).payload (recvCell d c s) r a = recvPay X d c s := by
  dsimp only [Rd]; rw [role_recv]; dsimp only; rw [ofNat_val hs]

theorem expect_bar : (Rd X).expect (barCell d) 0 = 3 := by
  unfold Schedule.expect Schedule.amountOf
  rw [duties_bar, Finset.sum_congr rfl fun a _ => amount_bar X d 0 a, Finset.sum_const, Finset.card_univ, Fintype.card_fin, smul_eq_mul]
theorem expect_send {r : ℕ} (hr : r < 6) : (Rd X).expect (sendCell d c) r = amt c r := by
  unfold Schedule.expect Schedule.amountOf; rw [duties_send X d c hr, Finset.sum_singleton, amount_send]
theorem expect_recv {s : ℕ} (hs : s < 6) : (Rd X).expect (recvCell d c s) 0 = amt c s := by
  unfold Schedule.expect Schedule.amountOf; rw [duties_recv, Finset.sum_singleton, amount_recv X d c hs]

theorem rest_bar : bigSep ((Rd X).duties (barCell d) 0 \ ∅) (fun a => (Rd X).payload (barCell d) 0 a)
    = bigSep Finset.univ fun a : Fin 3 => barPay (F := F) d a := by
  rw [Finset.sdiff_empty, duties_bar]; rfl
theorem rest_send {r : ℕ} (hr : r < 6) :
    bigSep ((Rd X).duties (sendCell d c) r \ ∅) (fun a => (Rd X).payload (sendCell d c) r a) = sendPay X d c r := by
  rw [Finset.sdiff_empty, duties_send X d c hr, bigSep_singleton, payload_send]
theorem rest_recv {s : ℕ} (hs : s < 6) :
    bigSep ((Rd X).duties (recvCell d c s) 0 \ ∅) (fun a => (Rd X).payload (recvCell d c s) 0 a) = recvPay X d c s := by
  rw [Finset.sdiff_empty, duties_recv, bigSep_singleton, payload_recv X d c hs]

end Sched

/-! ## What a device still owes, and the order of the waits -/

/-- The place of chain `c`'s transfer at stage `s` among a device's thirty-six transfers. -/
def place (c : Fin 6) (s : ℕ) : ℕ := 6 * s + ![0, 3, 1, 4, 2, 5] c
/-- The chain and the stage of the `p`-th transfer. -/
def chainAt (p : ℕ) : Fin 6 := ![0, 2, 4, 1, 3, 5] (Fin.ofNat 6 p)
def stageAt (p : ℕ) : ℕ := p / 6

theorem chainAt_place (c : Fin 6) (s : ℕ) : chainAt (place c s) = c := by
  have : Fin.ofNat 6 (place c s) = ![0, 3, 1, 4, 2, 5] c := by
    apply Fin.ext
    show (6 * s + _) % 6 = _
    fin_cases c <;> simp <;> omega
  unfold chainAt; rw [this]; clear this; revert c; decide
theorem stageAt_place (c : Fin 6) (s : ℕ) : stageAt (place c s) = s := by
  unfold stageAt place; fin_cases c <;> simp <;> omega
theorem place_lt (c : Fin 6) {s : ℕ} (hs : s < 6) : place c s < 36 := by
  unfold place; fin_cases c <;> simp <;> omega
theorem place_at {p : ℕ} : place (chainAt p) (stageAt p) = p := by
  have h : (![0, 3, 1, 4, 2, 5] : Fin 6 → ℕ) (chainAt p) = (Fin.ofNat 6 p).val := by
    unfold chainAt; generalize Fin.ofNat 6 p = q; revert q; decide
  unfold place stageAt; rw [h]; show 6 * (p / 6) + p % 6 = p; omega

/-- The cell the `p`-th transfer completes on. -/
def target (d : Dev nD) (p : ℕ) : GSem nD τ sig :=
  recvCell (peer d (chainAt p) (stageAxis (stageAt p))) (chainAt p) (stageAt p)

/-- What a device owes before its `n`-th transfer: the credits of that and the later ones. -/
def owed (d : Dev nD) (n : ℕ) : CellTallies nD τ sig Unit :=
  ∑ p ∈ Finset.Ico n 36, tallyAt (target d p) () (amt (chainAt p) (stageAt p))

theorem owed_succ (d : Dev nD) (c : Fin 6) {s : ℕ} (hs : s < 6) :
    owed d (place c s) = owed d (place c s + 1) + tallyAt (recvCell (peer d c (stageAxis s)) c s) () (amt c s) := by
  unfold owed
  have h : Finset.Ico (place c s) 36 = insert (place c s) (Finset.Ico (place c s + 1) 36) := by
    have := place_lt c hs
    ext p; rw [Finset.mem_insert, Finset.mem_Ico, Finset.mem_Ico]; omega
  rw [h, Finset.sum_insert (by rw [Finset.mem_Ico]; omega), add_comm]
  unfold target
  rw [chainAt_place, stageAt_place]

theorem owed_end (d : Dev nD) : owed d 36 = 0 := by unfold owed; rw [Finset.Ico_self, Finset.sum_empty]

/-- What a device owes at launch: all its transfers, and a unit to the barrier across each axis. -/
def owed₁ (d : Dev nD) : CellTallies nD τ sig Unit := owed d 0 + tallyAt (barCell (flip d 2)) () 1
def owed₂ (d : Dev nD) : CellTallies nD τ sig Unit := owed₁ d + tallyAt (barCell (flip d 1)) () 1
def owed₃ (d : Dev nD) : CellTallies nD τ sig Unit := owed₂ d + tallyAt (barCell (flip d 0)) () 1

def L (g : GSem nD τ sig) : Finset Unit := if g.1.2 = .tc then {()} else ∅
/-- Barrier cells wait first, then the receive cells in the order of the transfers; nothing owed waits for the others. -/
def lv (g : GSem nD τ sig) (_ : Unit) : ℕ :=
  match role g.2 with
  | .bar => 1
  | .recv c s => 2 + place c s.val
  | _ => 0

theorem L_of_ne (g : GSem nD τ sig) (h : g.1.2 ≠ .tc) : L g = ∅ := if_neg h
theorem L_tc (d : Dev nD) (sm : SemLoc sig) : L ((d : Thread nD τ), sm) = {()} := if_pos rfl
theorem lv_bar (d : Dev nD) : lv (barCell d) () = 1 := rfl
theorem lv_send (d : Dev nD) (c : Fin 6) : lv (sendCell d c) () = 0 := by dsimp only [lv]; rw [role_send]
theorem lv_recv (d : Dev nD) (c : Fin 6) {s : ℕ} (hs : s < 6) : lv (recvCell d c s) () = 2 + place c s := by
  dsimp only [lv]; rw [role_recv]; dsimp only; rw [ofNat_val hs]

theorem owed_pos {d : Dev nD} {n : ℕ} {g : GSem nD τ sig} {u : Unit} (h : 0 < owed d n g u) :
    ∃ p, n ≤ p ∧ p < 36 ∧ g = target d p := by
  unfold owed at h
  rw [Finset.sum_apply, Finsupp.finset_sum_apply] at h
  obtain ⟨p, hp, hne⟩ := Finset.exists_ne_zero_of_sum_ne_zero h.ne'
  rw [Finset.mem_Ico] at hp
  refine ⟨p, hp.1, hp.2, ?_⟩
  by_contra hg
  exact hne (by rw [tallyAt_apply, if_neg fun h' => hg h'.1])

theorem lv_target (d : Dev nD) {p : ℕ} (hp : p < 36) : lv (target d p) () = 2 + p := by
  unfold target; rw [lv_recv _ _ (by unfold stageAt; omega), place_at]

/-- A device that has made `n` transfers may wait for any cell below the `n`-th transfer's. -/
theorem mayWait_owed (d : Dev nD) (sm : SemLoc sig) {n : ℕ} (h : lv ((d : Thread nD τ), sm) () < 2 + n) :
    (levAts L lv : sProp 𝕄) ⊢ MayWait (d : Thread nD τ) sm () (owed d n) :=
  MayOwe.of_cut (L := L) (lev := lv) (lv ((d : Thread nD τ), sm) ())
    (fun p hp => by rw [Finset.mem_singleton.mp hp, L_tc]; exact Finset.mem_singleton_self _)
    (fun g u hg => by
      obtain ⟨p, -, -, rfl⟩ := owed_pos hg
      exact Finset.mem_singleton_self _)
    (fun p hp => by rw [Finset.mem_singleton.mp hp])
    (fun g u hg => by
      obtain ⟨p, hn, hp, rfl⟩ := owed_pos hg
      rw [lv_target d hp]; omega)

theorem owed₃_pos {d : Dev nD} {g : GSem nD τ sig} {u : Unit} (h : 0 < owed₃ d g u) :
    (∃ p, p < 36 ∧ g = target d p) ∨ ∃ a, g = barCell (flip d a) := by
  unfold owed₃ owed₂ owed₁ at h
  rw [Pi.add_apply, Finsupp.add_apply, Pi.add_apply, Finsupp.add_apply, Pi.add_apply, Finsupp.add_apply,
    tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨p, -, hp, hg⟩ := owed_pos (show 0 < owed d 0 g u by omega)
  exact hn.1 p ⟨hp, hg⟩

/-- A cell that nothing owed waits for may be waited for at launch and at the end. -/
theorem mayWait_stage (d : Dev nD) (sm : SemLoc sig) (hs : lv ((d : Thread nD τ), sm) () = 0)
    (O : CellTallies nD τ sig Unit) (hO : O = owed₃ d ∨ O = 0) :
    (levAts L lv : sProp 𝕄) ⊢ MayWait (d : Thread nD τ) sm () O := by
  rcases hO with rfl | rfl
  · exact MayOwe.of_cut (L := L) (lev := lv) 0
      (fun p hp => by rw [Finset.mem_singleton.mp hp, L_tc]; exact Finset.mem_singleton_self _)
      (fun g u hg => by
        rcases owed₃_pos hg with ⟨p, -, rfl⟩ | ⟨a, rfl⟩ <;> exact Finset.mem_singleton_self _)
      (fun p hp => by rw [Finset.mem_singleton.mp hp]; exact hs.le)
      (fun g u hg => by
        rcases owed₃_pos hg with ⟨p, hp, rfl⟩ | ⟨a, rfl⟩
        · rw [lv_target d hp]; omega
        · rw [lv_bar]; decide)
  · rw [MayWait_zero]; iintro -; iempintro

end Cert.AllReduce

end
-- ==== Proof.Steps.lean ====
/-
The protocol's steps on one chain: what a device holds of a chain's cells before and after each transfer and each wait,
and the rule for a transfer and for each of the two waits, for any chain and stage.
-/
module

public import proofs.«01_k».proof.Proof.Protocol

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the devices share -/

section Shared
variable (X : Dev nD → Tab F) (K : Dev nD × Fin 43 → ℕ)

/-- Every cell's invariant, that every cell has reached its first round, and the levels. -/
def Shared : sProp 𝕄 :=
  iprop((bigSep Finset.univ fun ck => cellInv ER (Rd X) (K ck) (kcell ck))
    ∗ (bigSep Finset.univ fun ck => reached ER (kcell ck) 0) ∗ levAts L lv)

instance Shared_persistent : BI.Persistent (Shared X K) := by unfold Shared; infer_instance

theorem shared_inv (d : Dev nD) (i : Fin 43) : Shared X K ⊢ cellInv ER (Rd X) (K (d, i)) (kcell (d, i)) := by
  unfold Shared
  iintro ⟨H, -, -⟩
  have h : (bigSep Finset.univ fun ck => (cellInv ER (Rd X) (K ck) (kcell ck) : sProp 𝕄)) ⊢ cellInv ER (Rd X) (K (d, i)) (kcell (d, i)) :=
    bigSep_elim (Finset.mem_univ (d, i))
  iapply h; iexact H

theorem shared_reached (d : Dev nD) (i : Fin 43) : Shared X K ⊢ reached ER (kcell (d, i)) 0 := by
  unfold Shared
  iintro ⟨-, H, -⟩
  have h : (bigSep Finset.univ fun ck => (reached ER (kcell ck) 0 : sProp 𝕄)) ⊢ reached ER (kcell (d, i)) 0 :=
    bigSep_elim (Finset.mem_univ (d, i))
  iapply h; iexact H

theorem shared_lev : Shared X K ⊢ levAts L lv := by
  unfold Shared
  iintro ⟨-, -, H⟩
  iexact H

end Shared

/-! ## What a device holds of its own -/

section Own
variable (d : Dev nD) (c : Fin 6)

/-- Device `d` owes its transfers from the `n`-th on. -/
def Owing (n : ℕ) : sProp 𝕄 := iprop(∃ W, owes (d : Thread nD τ) (owed d n) W)

/-- What a device holds for stage `s` of a chain that it has not begun: its place at the receive cell and the right to
    wait there, and the duties of its own transfer on its send cell and on the other device's receive cell. -/
def stageOf (s : ℕ) : sProp 𝕄 :=
  iprop(atPos ER (recvCell d c s) 0 ∅ 0 ∗ cred (tallyAt (recvCell d c s) () (amt c s))
    ∗ dutyTok ER (sendCell d c) s 0 ∗ dutyTok ER (recvCell (peer d c (stageAxis s)) c s) 0 0)

/-- The last `n` stages, not begun. -/
def ahead : ℕ → sProp 𝕄
  | 0 => iprop(emp)
  | n + 1 => iprop(stageOf (F := F) d c (5 - n) ∗ ahead n)

/-- The first `n` stages' receive cells, waited for. -/
def behind : ℕ → sProp 𝕄
  | 0 => iprop(emp)
  | n + 1 => iprop(atPos ER (recvCell d c n) 1 ∅ 0 ∗ behind n)

/-- Before the transfer of stage `s`. -/
def Ready (s : ℕ) : sProp 𝕄 :=
  iprop(behind (F := F) d c s ∗ atPos ER (sendCell d c) s ∅ 0 ∗ reached ER (sendCell d c) s ∗ ahead (F := F) d c (6 - s))

/-- After it, before the wait for it. -/
def Flying (s : ℕ) : sProp 𝕄 :=
  iprop(behind (F := F) d c s ∗ atPos ER (sendCell d c) s ∅ 0 ∗ cred (tallyAt (sendCell d c) () (amt c s))
    ∗ atPos ER (recvCell d c s) 0 ∅ 0 ∗ cred (tallyAt (recvCell d c s) () (amt c s)) ∗ ahead (F := F) d c (5 - s))

/-- After the wait for the own transfer, before the wait for the other device's. -/
def Waiting (s : ℕ) : sProp 𝕄 :=
  iprop(behind (F := F) d c s ∗ atPos ER (sendCell d c) (s + 1) ∅ 0 ∗ reached ER (sendCell d c) (s + 1)
    ∗ atPos ER (recvCell d c s) 0 ∅ 0 ∗ cred (tallyAt (recvCell d c s) () (amt c s)) ∗ ahead (F := F) d c (5 - s))

theorem ahead_next {s : ℕ} (hs : s < 6) :
    ahead (F := F) d c (6 - s) = iprop(stageOf (F := F) d c s ∗ ahead (F := F) d c (5 - s)) := by
  obtain ⟨n, hn⟩ : ∃ n, 5 - s = n := ⟨_, rfl⟩
  have h6 : 6 - s = n + 1 := by omega
  have h5 : 5 - n = s := by omega
  rw [hn, h6]
  show iprop(stageOf (F := F) d c (5 - n) ∗ ahead (F := F) d c n) = _
  rw [h5]

end Own

/-! ## The steps -/

section Step
variable (X : Dev nD → Tab F) (K : Dev nD × Fin 43 → ℕ)

section Send
variable {Rs Rt : ℕ} (ms : Memref sig .tc .vmem (RowsS Rs) .f32) (mt : Memref sig .tc .vmem (RowsS Rt) .f32)
  {d p : Dev nD} (c : Fin 6) {s : ℕ} (hs : s < 6) (hp : p = peer d c (stageAxis s))
  {lo lo' n : ℕ} {off off' : Fin 2 → ℕ} (ho : off = ![lo, 0]) (ho' : off' = ![lo', 0])
  {inb : ∀ a, off a + (![n, 1024] : Fin 2 → ℕ) a ≤ (RowsS Rs).size a}
  {inb' : ∀ a, off' a + (![n, 1024] : Fin 2 → ℕ) a ≤ (RowsS Rt).size a}
  {sS sR : SemLoc sig} (hS : sS = csem (iSend c)) (hR : sR = csem (iRecv c (Fin.ofNat 6 s)))
  {w w' : Tab F} (hw : rowsOf w lo n = rowsOf w' lo' n)
  {hsc : (mt.slice (Rect.unit (s := RowsS Rt) off' ![n, 1024] inb') (fun _ => rfl)).view.ref.isScScratch = false}
  {hsrc : (ms.slice (Rect.unit (s := RowsS Rs) off ![n, 1024] inb) (fun _ => rfl)).view.WordExact}
  {hdst : (mt.slice (Rect.unit (s := RowsS Rt) off' ![n, 1024] inb') (fun _ => rfl)).view.WordExact}
  {hsem : DmaTarget.Typed .vmem sR (.remote (Dev.tc p : Thread nD τ)
    (mt.slice (Rect.unit (s := RowsS Rt) off' ![n, 1024] inb') (fun _ => rfl)) sS hsc)}
  (hN : (mt.slice (Rect.unit (s := RowsS Rt) off' ![n, 1024] inb') (fun _ => rfl)).view.amount sR = amt c s)

include hs hp ho ho' hS hR hw hN

set_option maxHeartbeats 1000000 in
/-- A transfer of rows whose source comes back with the wait for it. -/
theorem send_rows {α : Type} {Q : α → sProp 𝕄} {k : PUnit → TcProg F α}
    (h₁ : rows ms d lo n w ⊢ sendPay X d c s) (h₂ : rows mt (peer d c (stageAxis s)) lo' n w' ⊢ recvPay X (peer d c (stageAxis s)) c s) :
    iprop(Shared X K ∗ Owing (F := F) d (place c s) ∗ Ready (F := F) d c s ∗ rows ms d lo n w
        ∗ anyRows mt (peer d c (stageAxis s)) lo' n)
      ⊢ iprop(((Owing (F := F) d (place c s + 1) ∗ Flying (F := F) d c s) -∗ Runs d (k ⟨⟩) Q)
          -∗ Runs d (Prog.op (.enqueueDma (ms.slice (Rect.unit (s := RowsS Rs) off ![n, 1024] inb) (fun _ => rfl))
              (.remote (Dev.tc p : Thread nD τ) (mt.slice (Rect.unit (s := RowsS Rt) off' ![n, 1024] inb') (fun _ => rfl)) sS hsc)
              sR hsrc hdst hsem) k) Q) := by
  subst hp hS hR
  unfold Owing Ready Flying rows anyRows
  rw [ahead_next d c hs]
  unfold stageOf
  iintro ⟨#HS, ⟨%W, HO⟩, ⟨Hb, Hat, Hr, ⟨HatR, HcR, HtS, HtR⟩, Ha⟩, ⟨%fs, %hfs, Hs⟩, ⟨%fd, Hd⟩⟩ Hk
  have hA := slice_set ms ho (inb := inb)
  have hB := slice_set mt ho' (inb := inb')
  have hrd := slice_read ms d ho (inb := inb) hfs
  have hI₁ := shared_inv X K d (iSend c)
  have hI₂ := shared_inv X K (peer d c (stageAxis s)) (iRecv c (Fin.ofNat 6 s))
  have hr₂ := shared_reached X K (peer d c (stageAxis s)) (iRecv c (Fin.ofNat 6 s))
  have hpay₁ := (slice_rows ms d ho (inb := inb) hfs).trans (h₁.trans (Entails.of_eq (payload_send X d c s 0).symm))
  have hwr := slice_write mt (peer d c (stageAxis s)) ho' (inb := inb') fd (hrd.trans hw)
  have hpay₂ := (slice_rows mt (peer d c (stageAxis s)) ho' (inb := inb')
    (f := (mt.slice (Rect.unit (s := RowsS Rt) off' ![n, 1024] inb') (fun _ => rfl)).view.write (Elt F) fd
            ((ms.slice (Rect.unit (s := RowsS Rs) off ![n, 1024] inb) (fun _ => rfl)).view.read (Elt F) fs) Finset.univ) hwr).trans
    (h₂.trans (Entails.of_eq (payload_recv X _ c hs 0 0).symm))
  iapply (Rounds.wp_send_pointsTo 𝒱₀ ER (Rd X) (d : Thread nD τ) none (κ₁ := K (d, iSend c))
      (κ₂ := K (peer d c (stageAxis s), iRecv c (Fin.ofNat 6 s)))
      (c' := ((peer d c (stageAxis s) : Dev nD) : Thread nD τ)) (sS := csem (iSend c)) (sem := csem (iRecv c (Fin.ofNat 6 s)))
      (src := ms.slice (Rect.unit (s := RowsS Rs) off ![n, 1024] inb) (fun _ => rfl))
      (dst := mt.slice (Rect.unit (s := RowsS Rt) off' ![n, 1024] inb') (fun _ => rfl)) (r₁ := s) (r₂ := 0) (d₁ := 0) (d₂ := 0) (q := fullShare) (fs := fs) (fd := fd) (W := W)
      (by rw [duties_send X d c hs]; exact Finset.mem_singleton_self _) (by rw [duties_recv]; exact Finset.mem_singleton_self _)
      () () (amt c s) hN (amount_send X d c s 0) (amount_recv X _ c hs 0 0) (owed d (place c s + 1)) (owed_succ d c hs) hpay₁ hpay₂)
    $$ [HO Hs Hd HtS Hr HtR]
  · isplitr; · iapply hI₁; iexact HS
    isplitr; · iapply hI₂; iexact HS
    isplitl [Hs]
    · iapply (Entails.of_eq (congrArg (fun S => (ms.view.loc (d : Thread nD τ) ↦[S]{fullShare} fs : sProp 𝕄)) hA.symm)); iexact Hs
    isplitl [Hd]
    · iapply (Entails.of_eq (congrArg (fun S => (mt.view.loc ((peer d c (stageAxis s) : Dev nD) : Thread nD τ) ↦[S]{fullShare} fd : sProp 𝕄)) hB.symm)); iexact Hd
    isplitl [HO]; · iexact HO
    isplitl [HtS]; · iexact HtS
    isplitl [Hr]; · iexact Hr
    isplitl [HtR]; · iexact HtR
    iapply hr₂; iexact HS
  iintro ⟨Hc, HO⟩
  iapply Hk
  isplitl [HO]; · iexists W; iexact HO
  isplitl [Hb]; · iexact Hb
  isplitl [Hat]; · iexact Hat
  isplitl [Hc]; · iexact Hc
  isplitl [HatR]; · iexact HatR
  isplitl [HcR]; · iexact HcR
  iexact Ha

set_option maxHeartbeats 1000000 in
/-- A transfer of rows whose source goes to the other device with the landing. -/
theorem send_rows_away {α : Type} {Q : α → sProp 𝕄} {k : PUnit → TcProg F α}
    (h₁ : (emp : sProp 𝕄) ⊢ sendPay X d c s)
    (h₂ : iprop(rows mt (peer d c (stageAxis s)) lo' n w' ∗ anyRows ms d lo n) ⊢ recvPay X (peer d c (stageAxis s)) c s) :
    iprop(Shared X K ∗ Owing (F := F) d (place c s) ∗ Ready (F := F) d c s ∗ rows ms d lo n w
        ∗ anyRows mt (peer d c (stageAxis s)) lo' n)
      ⊢ iprop(((Owing (F := F) d (place c s + 1) ∗ Flying (F := F) d c s) -∗ Runs d (k ⟨⟩) Q)
          -∗ Runs d (Prog.op (.enqueueDma (ms.slice (Rect.unit (s := RowsS Rs) off ![n, 1024] inb) (fun _ => rfl))
              (.remote (Dev.tc p : Thread nD τ) (mt.slice (Rect.unit (s := RowsS Rt) off' ![n, 1024] inb') (fun _ => rfl)) sS hsc)
              sR hsrc hdst hsem) k) Q) := by
  subst hp hS hR
  unfold Owing Ready Flying
  rw [ahead_next d c hs]
  unfold stageOf
  iintro ⟨#HS, ⟨%W, HO⟩, ⟨Hb, Hat, Hr, ⟨HatR, HcR, HtS, HtR⟩, Ha⟩, Hs, Hd⟩ Hk
  unfold rows anyRows
  icases Hs with ⟨%fs, %hfs, Hs⟩
  icases Hd with ⟨%fd, Hd⟩
  have hA := slice_set ms ho (inb := inb)
  have hB := slice_set mt ho' (inb := inb')
  have hrd := slice_read ms d ho (inb := inb) hfs
  have hI₁ := shared_inv X K d (iSend c)
  have hI₂ := shared_inv X K (peer d c (stageAxis s)) (iRecv c (Fin.ofNat 6 s))
  have hr₂ := shared_reached X K (peer d c (stageAxis s)) (iRecv c (Fin.ofNat 6 s))
  have hpay₁ : (emp : sProp 𝕄) ⊢ (Rd X).payload (sendCell d c) s 0 := by rw [payload_send]; exact h₁
  have hwr := slice_write mt (peer d c (stageAxis s)) ho' (inb := inb') fd (hrd.trans hw)
  have hpay₂ := (BIClass.sep_mono (slice_rows mt (peer d c (stageAxis s)) ho' (inb := inb')
    (f := (mt.slice (Rect.unit (s := RowsS Rt) off' ![n, 1024] inb') (fun _ => rfl)).view.write (Elt F) fd
            ((ms.slice (Rect.unit (s := RowsS Rs) off ![n, 1024] inb) (fun _ => rfl)).view.read (Elt F) fs) Finset.univ) hwr)
    (slice_any ms d ho (inb := inb) fs)).trans (h₂.trans (Entails.of_eq (payload_recv X _ c hs 0 0).symm))
  iapply (Rounds.wp_send_landing_pointsTo 𝒱₀ ER (Rd X) (d : Thread nD τ) none (κ₁ := K (d, iSend c))
      (κ₂ := K (peer d c (stageAxis s), iRecv c (Fin.ofNat 6 s)))
      (c' := ((peer d c (stageAxis s) : Dev nD) : Thread nD τ)) (sS := csem (iSend c)) (sem := csem (iRecv c (Fin.ofNat 6 s)))
      (src := ms.slice (Rect.unit (s := RowsS Rs) off ![n, 1024] inb) (fun _ => rfl))
      (dst := mt.slice (Rect.unit (s := RowsS Rt) off' ![n, 1024] inb') (fun _ => rfl)) (r₁ := s) (r₂ := 0) (d₁ := 0) (d₂ := 0) (q := fullShare) (fs := fs) (fd := fd) (W := W)
      (by rw [duties_send X d c hs]; exact Finset.mem_singleton_self _) (by rw [duties_recv]; exact Finset.mem_singleton_self _)
      () () (amt c s) hN (amount_send X d c s 0) (amount_recv X _ c hs 0 0) (owed d (place c s + 1)) (owed_succ d c hs) hpay₁ hpay₂)
    $$ [HO Hs Hd HtS Hr HtR]
  · isplitr; · iapply hI₁; iexact HS
    isplitr; · iapply hI₂; iexact HS
    isplitl [Hs]
    · iapply (Entails.of_eq (congrArg (fun S => (ms.view.loc (d : Thread nD τ) ↦[S]{fullShare} fs : sProp 𝕄)) hA.symm)); iexact Hs
    isplitl [Hd]
    · iapply (Entails.of_eq (congrArg (fun S => (mt.view.loc ((peer d c (stageAxis s) : Dev nD) : Thread nD τ) ↦[S]{fullShare} fd : sProp 𝕄)) hB.symm)); iexact Hd
    isplitl [HO]; · iexact HO
    isplitl [HtS]; · iexact HtS
    isplitl [Hr]; · iexact Hr
    isplitl [HtR]; · iexact HtR
    iapply hr₂; iexact HS
  iintro ⟨Hc, HO⟩
  iapply Hk
  isplitl [HO]; · iexists W; iexact HO
  isplitl [Hb]; · iexact Hb
  isplitl [Hat]; · iexact Hat
  isplitl [Hc]; · iexact Hc
  isplitl [HatR]; · iexact HatR
  isplitl [HcR]; · iexact HcR
  iexact Ha

end Send

section Wait
variable {d : Dev nD} (c : Fin 6) {s : ℕ} (hs : s < 6) {sem : DmaSem sig} {sp sp' : Space} {sh sh' : Shape} {e e' : EltTy}
  {src : Memref sig .tc sp' sh' e'} {κ' : Kind} {dst : Memref sig κ' sp sh e} {hsrc : src.view.WordExact} {hdst : dst.view.WordExact}
  (hN : dst.view.dmaCredit = amt c s)

include hs hN

/-- The wait for the device's own transfer. -/
theorem wait_send {α : Type} {Q : α → sProp 𝕄} {k : PUnit → TcProg F α}
    (hsem : SemLoc.dma sem = csem (iSend c)) {n : ℕ} :
    iprop(Shared X K ∗ Owing (F := F) d n ∗ Flying (F := F) d c s)
      ⊢ iprop(((Owing (F := F) d n ∗ Waiting (F := F) d c s ∗ sendPay X d c s) -∗ Runs d (k ⟨⟩) Q)
          -∗ Runs d (Prog.op (.waitDma2 sem src dst hsrc hdst) k) Q) := by
  unfold Owing Flying Waiting
  iintro ⟨#HS, ⟨%W, HO⟩, ⟨Hb, Hat, Hc, HatR, HcR, Ha⟩⟩ Hk
  have hI := shared_inv X K d (iSend c)
  have hL := (shared_lev X K).trans (mayWait_owed (F := F) d (csem (iSend c)) (n := n) (by rw [lv_send]; omega))
  have hw : ∀ T : PUnit → sProp 𝕄, wpE (defs₀ (F := F)) 𝒱₀ (d : Thread nD τ) none Set.univ (.waitDma2 sem src dst hsrc hdst) T
      = waitSpec (d : Thread nD τ) Set.univ (csem (iSend c)) (amt c s) T := fun T => by rw [← hsem, ← hN]; rfl
  have hrest := rest_send X d c hs
  iapply (Rounds.wp_wait_rest_token 𝒱₀ ER (Rd X) (d : Thread nD τ) none (κ := K (d, iSend c)) hw (Set.mem_univ _) ()
      (O := owed d n) (W := W) (R := s) (m := 0) (T := ∅) (by rw [Nat.zero_add]; exact (expect_send X d c hs).symm)) $$ [Hc HO Hat]
  · isplitr; · iapply hI; iexact HS
    isplitl [Hc]; · iexact Hc
    isplitl [HO]; · iexact HO
    isplitr; · iapply hL; iexact HS
    iexact Hat
  iintro ⟨HO, Hat, Hr, Hpay⟩
  ihave Hp := (Entails.of_eq hrest) $$ Hpay
  iapply Hk
  isplitl [HO]; · iexists _; iexact HO
  isplitr [Hp]
  · isplitl [Hb]; · iexact Hb
    isplitl [Hat]; · iexact Hat
    isplitl [Hr]; · iexact Hr
    isplitl [HatR]; · iexact HatR
    isplitl [HcR]; · iexact HcR
    iexact Ha
  iexact Hp

/-- The wait for the other device's transfer, which needs that all of the device's own transfers up to that place are
    made. -/
theorem wait_recv {α : Type} {Q : α → sProp 𝕄} {k : PUnit → TcProg F α}
    (hsem : SemLoc.dma sem = csem (iRecv c (Fin.ofNat 6 s))) {n : ℕ} (hn : place c s < n) :
    iprop(Shared X K ∗ Owing (F := F) d n ∗ Waiting (F := F) d c s)
      ⊢ iprop(((Owing (F := F) d n ∗ Ready (F := F) d c (s + 1) ∗ recvPay X d c s) -∗ Runs d (k ⟨⟩) Q)
          -∗ Runs d (Prog.op (.waitDma2 sem src dst hsrc hdst) k) Q) := by
  unfold Owing Waiting Ready
  iintro ⟨#HS, ⟨%W, HO⟩, ⟨Hb, Hat, Hr, HatR, HcR, Ha⟩⟩ Hk
  have hI := shared_inv X K d (iRecv c (Fin.ofNat 6 s))
  have hL := (shared_lev X K).trans (mayWait_owed (F := F) d (csem (iRecv c (Fin.ofNat 6 s))) (n := n) (by rw [lv_recv d c hs]; omega))
  have hw : ∀ T : PUnit → sProp 𝕄, wpE (defs₀ (F := F)) 𝒱₀ (d : Thread nD τ) none Set.univ (.waitDma2 sem src dst hsrc hdst) T
      = waitSpec (d : Thread nD τ) Set.univ (csem (iRecv c (Fin.ofNat 6 s))) (amt c s) T := fun T => by rw [← hsem, ← hN]; rfl
  have hrest := rest_recv X d c hs
  have hb : iprop(atPos ER (recvCell d c s) 1 ∅ 0 ∗ behind (F := F) d c s) ⊢ behind d c (s + 1) := BI.Entails.refl _
  iapply (Rounds.wp_wait_rest_token 𝒱₀ ER (Rd X) (d : Thread nD τ) none (κ := K (d, iRecv c (Fin.ofNat 6 s))) hw (Set.mem_univ _) ()
      (O := owed d n) (W := W) (R := 0) (m := 0) (T := ∅) (by rw [Nat.zero_add]; exact (expect_recv X d c hs).symm)) $$ [HcR HO HatR]
  · isplitr; · iapply hI; iexact HS
    isplitl [HcR]; · iexact HcR
    isplitl [HO]; · iexact HO
    isplitr; · iapply hL; iexact HS
    iexact HatR
  iintro ⟨HO, HatR, -, Hpay⟩
  ihave Hp := (Entails.of_eq hrest) $$ Hpay
  iapply Hk
  isplitl [HO]; · iexists _; iexact HO
  isplitr [Hp]
  · isplitl [Hb HatR]
    · iapply hb
      isplitl [HatR]; · iexact HatR
      iexact Hb
    isplitl [Hat]; · iexact Hat
    isplitl [Hr]; · iexact Hr
    rw [show 6 - (s + 1) = 5 - s by omega]
    iexact Ha
  iexact Hp

end Wait

end Step

end Cert.AllReduce

end
-- ==== Proof.Chain.lean ====
/-
What a device holds of one chain between any two of its operations, and how each operation changes it.

A chain runs through the stages 0 to 5. Before stage `s` (`ready s`) the device holds the rows to send and the rows to
write across; with its transfer made it waits for it (`sent s`), then for the other device's (`back s`), and has what
that brought (`got s`). After stages 0 and 1 it adds what came to the half to be sent next, which makes it ready, sends
that half, and only then (`mid`) adds to the half it keeps. After stage 2 it adds to all it keeps. After stages 3 to 5
there is nothing to compute.
-/
module

public import proofs.«01_k».proof.Proof.Steps

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Memory -/

section Memory
variable (X : Dev nD → Tab F) (d : Dev nD) (c : Fin 6)

/-- The rows of the input the device keeps at the first halving, and those it gives. -/
def xKeep : sProp 𝕄 := rows xM d (keep d c 0) (sz c 0) (X d)
def xGive : sProp 𝕄 := rows xM d (give d c 0) (sz c 0) (X d)
/-- The device's own scratch rows of stage `k`, whatever they hold. -/
def spent (k : Fin 3) : sProp 𝕄 := anyRows sM d (land c k) (sz c k)
/-- The other device's scratch rows of stage `k`. -/
def across (k : Fin 3) : sProp 𝕄 := anyRows sM (peer d c k) (land c k) (sz c k)
/-- The rows of the result kept at the `k`-th halving, holding a table's contents. -/
def kept (k : Fin 3) (w : Tab F) : sProp 𝕄 := rows oM d (keep d c k) (sz c k) w
/-- The rows of the result given at the `k`-th halving, holding a table's contents. -/
def given (k : Fin 3) (w : Tab F) : sProp 𝕄 := rows oM d (give d c k) (sz c k) w
/-- The rows of the result kept at the `k`-th halving, whatever they hold. -/
def blank (k : Fin 3) : sProp 𝕄 := anyRows oM d (keep d c k) (sz c k)

/-- The whole of the input's rows of the chain, in two halves. -/
def xBoth : sProp 𝕄 := iprop(xKeep X d c ∗ xGive X d c)

/-- What the transfer of stage `s` reads (after the last: the chain's rows of the result). -/
def srcM (s : ℕ) : sProp 𝕄 :=
  match s with
  | 0 => xGive X d c
  | 1 => given d c 1 (psum X 1 d)
  | 2 => given d c 2 (psum X 2 d)
  | 3 => kept d c 2 (total X)
  | 4 => kept d c 1 (total X)
  | 5 => kept d c 0 (total X)
  | _ => rows oM d (base c) (8 * eighth c) (total X)

/-- What the transfer of stage `s` writes. -/
def dstM (s : ℕ) : sProp 𝕄 :=
  match s with
  | 0 => across (F := F) d c 0
  | 1 => across (F := F) d c 1
  | 2 => across (F := F) d c 2
  | 3 => theirs (F := F) d c 2
  | 4 => theirs (F := F) d c 1
  | 5 => theirs (F := F) d c 0
  | _ => iprop(emp)

/-- What is left while the transfer of stage `s` flies, all additions made. -/
def sentM (s : ℕ) : sProp 𝕄 :=
  match s with
  | 0 => iprop(xKeep X d c ∗ blank (F := F) d c 0 ∗ across (F := F) d c 1 ∗ across (F := F) d c 2 ∗ theirs (F := F) d c 0)
  | 1 => iprop(xBoth X d c ∗ kept d c 1 (psum X 1 d) ∗ spent (F := F) d c 0 ∗ across (F := F) d c 2 ∗ theirs (F := F) d c 0)
  | 2 => iprop(xBoth X d c ∗ kept d c 2 (psum X 2 d) ∗ spent (F := F) d c 0 ∗ spent (F := F) d c 1 ∗ theirs (F := F) d c 0 ∗ theirs (F := F) d c 1)
  | 3 => iprop(xBoth X d c ∗ spent (F := F) d c 0 ∗ spent (F := F) d c 1 ∗ spent (F := F) d c 2 ∗ theirs (F := F) d c 0 ∗ theirs (F := F) d c 1)
  | 4 => iprop(xBoth X d c ∗ spent (F := F) d c 0 ∗ spent (F := F) d c 1 ∗ spent (F := F) d c 2 ∗ theirs (F := F) d c 0)
  | _ => iprop(xBoth X d c ∗ spent (F := F) d c 0 ∗ spent (F := F) d c 1 ∗ spent (F := F) d c 2)

/-- What is left right after the transfer of stage `s` is made. -/
def midM (s : ℕ) : sProp 𝕄 :=
  match s with
  | 1 => iprop(xBoth X d c ∗ blank (F := F) d c 1 ∗ landed X d c 0 ∗ across (F := F) d c 2 ∗ theirs (F := F) d c 0)
  | 2 => iprop(xBoth X d c ∗ kept d c 2 (psum X 1 d) ∗ landed X d c 1 ∗ spent (F := F) d c 0 ∗ theirs (F := F) d c 0 ∗ theirs (F := F) d c 1)
  | s => sentM X d c s

end Memory

/-- Where a chain stands between two operations. -/
inductive Phase where
  | ready (s : ℕ)
  | mid (s : ℕ)
  | sent (s : ℕ)
  | back (s : ℕ)
  | got (s : ℕ)

/-- What the device holds of a chain there. -/
def Holds (X : Dev nD → Tab F) (d : Dev nD) (c : Fin 6) : Phase → sProp 𝕄
  | .ready s => iprop(Ready (F := F) d c s ∗ srcM X d c s ∗ dstM (F := F) d c s ∗ midM X d c s)
  | .mid s => iprop(Flying (F := F) d c s ∗ midM X d c s)
  | .sent s => iprop(Flying (F := F) d c s ∗ sentM X d c s)
  | .back s => iprop(Waiting (F := F) d c s ∗ sendPay X d c s ∗ sentM X d c s)
  | .got s => iprop(Ready (F := F) d c (s + 1) ∗ recvPay X d c s ∗ sendPay X d c s ∗ sentM X d c s)

/-- Device `d`, having made `n` transfers, with its chains at the phases. -/
def At (X : Dev nD → Tab F) (K : Dev nD × Fin 43 → ℕ) (d : Dev nD) (n : ℕ) (ph : Fin 6 → Phase) : sProp 𝕄 :=
  iprop(Shared X K ∗ Owing (F := F) d n ∗ Holds X d 0 (ph 0) ∗ Holds X d 1 (ph 1) ∗ Holds X d 2 (ph 2) ∗ Holds X d 3 (ph 3)
    ∗ Holds X d 4 (ph 4) ∗ Holds X d 5 (ph 5))

section Rules
variable (X : Dev nD → Tab F) (K : Dev nD × Fin 43 → ℕ)

/-- The chains but one. -/
def Others (d : Dev nD) (c : Fin 6) (ph : Fin 6 → Phase) : sProp 𝕄 :=
  bigSep (Finset.univ.erase c) fun c' => Holds X d c' (ph c')

theorem at_eq (d : Dev nD) (n : ℕ) (c : Fin 6) (ph : Fin 6 → Phase) :
    At X K d n ph = iprop(Shared X K ∗ Owing (F := F) d n ∗ Holds X d c (ph c) ∗ Others X d c ph) := by
  have h : (bigSep Finset.univ fun c' => Holds X d c' (ph c'))
      = iprop(Holds X d 0 (ph 0) ∗ Holds X d 1 (ph 1) ∗ Holds X d 2 (ph 2) ∗ Holds X d 3 (ph 3) ∗ Holds X d 4 (ph 4) ∗ Holds X d 5 (ph 5)) :=
    bigSep_univ_eq_bigSepL [0, 1, 2, 3, 4, 5] (by decide) (by decide) _
  have h' : (bigSep Finset.univ fun c' => Holds X d c' (ph c')) = iprop(Holds X d c (ph c) ∗ Others X d c ph) :=
    bigSep_erase (Finset.mem_univ c)
  unfold At
  rw [← h, h']

theorem others_update (d : Dev nD) (c : Fin 6) (ph : Fin 6 → Phase) (p : Phase) :
    Others X d c (Function.update ph c p) = Others X d c ph := by
  unfold Others
  exact bigSep_congr fun c' hc => by rw [Function.update_of_ne (Finset.ne_of_mem_erase hc)]

/-- An operation on one chain takes the device from one state to the next. -/
theorem step (c : Fin 6) {d : Dev nD} {n n' : ℕ} {ph : Fin 6 → Phase} {new : Phase} {α : Type} {Q : α → sProp 𝕄} {p p' : TcProg F α}
    (r : iprop(Shared X K ∗ Owing (F := F) d n ∗ Holds X d c (ph c))
      ⊢ iprop(((Owing (F := F) d n' ∗ Holds X d c new) -∗ Runs d p' Q) -∗ Runs d p Q))
    (h : At X K d n' (Function.update ph c new) ⊢ Runs d p' Q) :
    At X K d n ph ⊢ Runs d p Q := by
  rw [at_eq X K d n c ph]
  rw [at_eq X K d n' c (Function.update ph c new), Function.update_self, others_update] at h
  iintro ⟨#HS, HO, Hc, Ho⟩
  iapply r $$ [HO Hc]
  · isplitr; · iexact HS
    isplitl [HO]; · iexact HO
    iexact Hc
  iintro ⟨HO, Hc⟩
  iapply h
  isplitr; · iexact HS
  isplitl [HO]; · iexact HO
  isplitl [Hc]; · iexact Hc
  iexact Ho

end Rules

end Cert.AllReduce

end
-- ==== Proof.Start.lean ====
/-
The start: a device's buffers cut into the chains' rows, and the handshake on the barrier semaphores, after which the
device holds, chain by chain, the rows of its own that it keeps and the other devices' rows it is to write.
-/
module

public import proofs.«01_k».proof.Proof.Chain

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting a buffer into consecutive pieces -/

section Cut

/-- Consecutive pieces, the first of `n` rows from `lo` on, the next ones of the numbers of rows listed. -/
def pieces (P : ℕ → ℕ → sProp 𝕄) : ℕ → ℕ → List ℕ → sProp 𝕄
  | lo, n, [] => P lo n
  | lo, n, n' :: l => iprop(P lo n ∗ pieces P (lo + n) n' l)

/-- What can be cut in two can be cut into pieces. -/
theorem cut {P : ℕ → ℕ → sProp 𝕄} (h : ∀ lo n n', P lo (n + n') ⊢ iprop(P lo n ∗ P (lo + n) n')) :
    ∀ (l : List ℕ) (lo n : ℕ), P lo (n + l.sum) ⊢ pieces P lo n l
  | [], lo, n => BI.Entails.refl _
  | n' :: l, lo, n => (h lo n (n' + l.sum)).trans (sep_mono_right (cut h l (lo + n) n'))

/-- What can be joined from two can be joined from pieces. -/
theorem paste {P : ℕ → ℕ → sProp 𝕄} (h : ∀ lo n n', iprop(P lo n ∗ P (lo + n) n') ⊢ P lo (n + n')) :
    ∀ (l : List ℕ) (lo n : ℕ), pieces P lo n l ⊢ P lo (n + l.sum)
  | [], lo, n => BI.Entails.refl _
  | n' :: l, lo, n => (sep_mono_right (paste h l (lo + n) n')).trans (h lo n (n' + l.sum))

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The 2048 rows are the six chains' rows. -/
theorem pieces_chains (P : ℕ → ℕ → sProp 𝕄) :
    pieces P 0 384 [320, 384, 320, 320, 320] = bigSep Finset.univ fun c : Fin 6 => P (base c) (8 * eighth c) := by
  rw [bigSep_six]; rfl

/-- The 1792 scratch rows are the six chains' scratch rows, -/
theorem pieces_scratch (P : ℕ → ℕ → sProp 𝕄) :
    pieces P 0 336 [280, 336, 280, 280, 280]
      = bigSep Finset.univ fun c : Fin 6 => P (land c 0) (sz c 0 + [sz c 1, sz c 2].sum) := by
  rw [bigSep_six]; rfl

/-- and a chain's scratch rows those of its three stages. -/
theorem pieces_land (P : ℕ → ℕ → sProp 𝕄) (c : Fin 6) :
    pieces P (land c 0) (sz c 0) [sz c 1, sz c 2] = bigSep Finset.univ fun k : Fin 3 => P (land c k) (sz c k) := by
  have h : land c 0 + sz c 0 = land c 1 ∧ land c 1 + sz c 1 = land c 2 := by revert c; decide
  rw [bigSep_three, ← h.2, ← h.1]; rfl

variable (d : Dev nD) (w : Tab F)

theorem x_cut : rows xM d 0 2048 w ⊢ bigSep Finset.univ fun c : Fin 6 => rows xM d (base c) (8 * eighth c) w :=
  (cut (P := fun lo n => rows xM d lo n w) (fun lo n n' => rows_split xM d lo n n' w) [320, 384, 320, 320, 320] 0 384).trans (Entails.of_eq (pieces_chains _))
theorem x_paste : (bigSep Finset.univ fun c : Fin 6 => rows xM d (base c) (8 * eighth c) w) ⊢ rows xM d 0 2048 w :=
  (Entails.of_eq (pieces_chains _).symm).trans (paste (P := fun lo n => rows xM d lo n w) (fun lo n n' => rows_join xM d lo n n' w) [320, 384, 320, 320, 320] 0 384)
theorem o_cut : anyRows (F := F) oM d 0 2048 ⊢ bigSep Finset.univ fun c : Fin 6 => anyRows oM d (base c) (8 * eighth c) :=
  (cut (P := fun lo n => anyRows (F := F) oM d lo n) (fun lo n n' => any_split oM d lo n n') [320, 384, 320, 320, 320] 0 384).trans (Entails.of_eq (pieces_chains _))
theorem o_paste : (bigSep Finset.univ fun c : Fin 6 => rows oM d (base c) (8 * eighth c) w) ⊢ rows oM d 0 2048 w :=
  (Entails.of_eq (pieces_chains _).symm).trans (paste (P := fun lo n => rows oM d lo n w) (fun lo n n' => rows_join oM d lo n n' w) [320, 384, 320, 320, 320] 0 384)
theorem s_cut : anyRows (F := F) sM d 0 1792 ⊢ bigSep Finset.univ fun c : Fin 6 => bigSep Finset.univ fun k : Fin 3 => spent d c k :=
  ((cut (P := fun lo n => anyRows (F := F) sM d lo n) (fun lo n n' => any_split sM d lo n n') [280, 336, 280, 280, 280] 0 336).trans
    (Entails.of_eq (pieces_scratch _))).trans (bigSep_mono fun c _ =>
      (cut (P := fun lo n => anyRows (F := F) sM d lo n) (fun lo n n' => any_split sM d lo n n') [sz c 1, sz c 2] (land c 0) (sz c 0)).trans
        (Entails.of_eq (pieces_land _ c)))
theorem s_paste : (bigSep Finset.univ fun c : Fin 6 => bigSep Finset.univ fun k : Fin 3 => spent (F := F) d c k) ⊢ anyRows sM d 0 1792 :=
  (bigSep_mono fun c _ => (Entails.of_eq (pieces_land _ c).symm).trans
      (paste (P := fun lo n => anyRows (F := F) sM d lo n) (fun lo n n' => any_join sM d lo n n') [sz c 1, sz c 2] (land c 0) (sz c 0))).trans
    ((Entails.of_eq (pieces_scratch _).symm).trans
      (paste (P := fun lo n => anyRows (F := F) sM d lo n) (fun lo n n' => any_join sM d lo n n') [280, 336, 280, 280, 280] 0 336))

end Cut

/-! ## What is handed over -/

section Handed
variable (d : Dev nD)

/-- The device's own rows that the device across the `k`-th axis of chain `c` is to write. -/
def handed (c : Fin 6) (k : Fin 3) : sProp 𝕄 :=
  iprop(spent (F := F) d c k ∗ (if k = 0 then anyRows oM d (give d c 0) (sz c 0) else emp))

theorem handed_eq (c : Fin 6) (k : Fin 3) : dstRows (F := F) (peer d c k) c k = handed d c k := by
  unfold dstRows handed spent
  rw [peer_peer]
  by_cases h : k = 0
  · subst h; rw [if_pos rfl, if_pos rfl, peer_peer, keep_peer]
  · rw [if_neg h, if_neg h]

/-- A chain is halved along each axis at exactly one turn. -/
def turns (c : Fin 6) : Fin 3 ≃ Fin 3 := ⟨turn c, axis c, axis_turn c, turn_axis c⟩

/-- What there is for each chain and turn, sorted by axis. -/
theorem by_axis (Φ : Fin 6 → Fin 3 → sProp 𝕄) :
    (bigSep Finset.univ fun c => bigSep Finset.univ fun k => Φ c k)
      = bigSep Finset.univ fun a => bigSep Finset.univ fun c => Φ c (turn c a) := by
  rw [bigSep_congr fun c _ => bigSep_univ_equiv (turns c) (Φ c),
    ← bigSep_univ_prod (fun ca : Fin 6 × Fin 3 => Φ ca.1 (turns ca.1 ca.2)), bigSep_univ_equiv (Equiv.prodComm (Fin 3) (Fin 6)), bigSep_univ_prod]
  rfl

/-- What the device hands across axis `a`. -/
theorem barPay_out (a : Fin 3) : (bigSep Finset.univ fun c => handed (F := F) d c (turn c a)) = barPay (flip d a) a := by
  unfold barPay
  exact bigSep_congr fun c _ => by rw [← handed_eq, peer_turn]

/-- What the device gets, sorted by chain. -/
theorem barPay_in : (bigSep Finset.univ fun a => barPay (F := F) d a)
    = bigSep Finset.univ fun c => bigSep Finset.univ fun k => dstRows d c k := (by_axis _).symm

end Handed

section Start
variable (X : Dev nD → Tab F) (K : Dev nD × Fin 43 → ℕ) (d : Dev nD)

/-- The rows of a chain a device starts with, and what becomes of them. -/
theorem chain_cut (c : Fin 6) :
    iprop(rows xM d (base c) (8 * eighth c) (X d) ∗ anyRows oM d (base c) (8 * eighth c) ∗ (bigSep Finset.univ fun k => spent d c k))
      ⊢ iprop((xBoth X d c ∗ blank d c 0) ∗ bigSep Finset.univ fun k => handed d c k) := by
  have hx := rows_halves xM d (sz_zero c) (lead_zero d c ▸ keep_give d c 0) (X d)
  have ho := any_halves (F := F) oM d (sz_zero c) (lead_zero d c ▸ keep_give d c 0)
  have e0 : handed (F := F) d c 0 = iprop(spent d c 0 ∗ anyRows oM d (give d c 0) (sz c 0)) := by unfold handed; rw [if_pos rfl]
  have e1 : handed (F := F) d c 1 = iprop(spent d c 1 ∗ emp) := by unfold handed; rw [if_neg (by decide)]
  have e2 : handed (F := F) d c 2 = iprop(spent d c 2 ∗ emp) := by unfold handed; rw [if_neg (by decide)]
  rw [bigSep_three, bigSep_three, e0, e1, e2]
  iintro ⟨Hx, Ho, Hs0, Hs1, Hs2⟩
  ihave Hx := hx $$ Hx
  ihave Ho := ho $$ Ho
  icases Ho with ⟨Hk, Hg⟩
  isplitl [Hx Hk]
  · isplitl [Hx]
    · unfold xBoth xKeep xGive; iexact Hx
    · unfold blank; iexact Hk
  isplitl [Hs0 Hg]
  · isplitl [Hs0]; · iexact Hs0
    iexact Hg
  isplitl [Hs1]
  · isplitl [Hs1]; · iexact Hs1
    iempintro
  isplitl [Hs2]; · iexact Hs2
  iempintro

/-- A chain ready for its first transfer. -/
theorem chain_ready (c : Fin 6) :
    iprop(Ready (F := F) d c 0 ∗ (xBoth X d c ∗ blank d c 0) ∗ (bigSep Finset.univ fun k => dstRows d c k)) ⊢ Holds X d c (.ready 0) := by
  have e0 : dstRows (F := F) d c 0 = iprop(across d c 0 ∗ theirs d c 0) := by unfold dstRows; rw [if_pos rfl]; rfl
  have e1 : dstRows (F := F) d c 1 = iprop(across d c 1 ∗ emp) := by unfold dstRows; rw [if_neg (by decide)]; rfl
  have e2 : dstRows (F := F) d c 2 = iprop(across d c 2 ∗ emp) := by unfold dstRows; rw [if_neg (by decide)]; rfl
  rw [bigSep_three, e0, e1, e2]
  show _ ⊢ iprop(Ready (F := F) d c 0 ∗ xGive X d c ∗ across (F := F) d c 0
    ∗ xKeep X d c ∗ blank (F := F) d c 0 ∗ across (F := F) d c 1 ∗ across (F := F) d c 2 ∗ theirs (F := F) d c 0)
  unfold xBoth
  iintro ⟨HR, ⟨⟨Hk, Hg⟩, Hb⟩, ⟨H0, Ht⟩, ⟨H1, -⟩, ⟨H2, -⟩⟩
  isplitl [HR]; · iexact HR
  isplitl [Hg]; · iexact Hg
  isplitl [H0]; · iexact H0
  isplitl [Hk]; · iexact Hk
  isplitl [Hb]; · iexact Hb
  isplitl [H1]; · iexact H1
  isplitl [H2]; · iexact H2
  iexact Ht

theorem at_all (n : ℕ) (ph : Fin 6 → Phase) :
    At X K d n ph = iprop(Shared X K ∗ Owing (F := F) d n ∗ bigSep Finset.univ fun c => Holds X d c (ph c)) := by
  rw [bigSep_six]; rfl

/-- What a device starts the handshake with. -/
def Opening : sProp 𝕄 :=
  iprop(Shared X K ∗ (∃ W, owes (d : Thread nD τ) (owed₃ d) W)
    ∗ (atPos ER (barCell d) 0 ∅ 0 ∗ cred (tallyAt (barCell d) () 3))
    ∗ (bigSep Finset.univ fun a : Fin 3 => dutyTok ER (barCell (flip d a)) 0 a)
    ∗ (bigSep Finset.univ fun c => Ready (F := F) d c 0)
    ∗ rows xM d 0 2048 (X d) ∗ anyRows oM d 0 2048 ∗ anyRows sM d 0 1792)

theorem buffers_cut :
    iprop(rows xM d 0 2048 (X d) ∗ anyRows oM d 0 2048 ∗ anyRows sM d 0 1792)
      ⊢ iprop((bigSep Finset.univ fun c => iprop(xBoth X d c ∗ blank d c 0)) ∗ bigSep Finset.univ fun a => barPay (flip d a) a) := by
  have h1 : (bigSep Finset.univ fun a => barPay (F := F) (flip d a) a) = bigSep Finset.univ fun c => bigSep Finset.univ fun k => handed d c k := by
    rw [by_axis]; exact bigSep_congr fun a _ => (barPay_out d a).symm
  have h2 := bigSep_mono (s := (Finset.univ : Finset (Fin 6))) fun c _ => chain_cut X d c
  rw [bigSep_sep', bigSep_sep', bigSep_sep'] at h2
  rw [h1]
  exact (BIClass.sep_mono (x_cut d (X d)) (BIClass.sep_mono (o_cut d) (s_cut d))).trans h2

theorem wait_bar_ok : Shared X K ⊢ MayWait (d : Thread nD τ) (csem 0) () (owed d 0) :=
  (shared_lev X K).trans (mayWait_owed (F := F) d (csem 0) (n := 0) (by rw [show lv ((d : Thread nD τ), csem 0) () = 1 from rfl]; decide))

variable {d} {h0 : xM.IsWhole} {h1 : oM.IsWhole} {h2 : sM.IsWhole} {α : Type}

/-- A signal to the device across axis `a`, with what it is to be handed. -/
theorem signal_across (a : Fin 3) {p : Dev nD} (hp : p = flip d a) {O : CellTallies nD τ sig Unit} {W : Waits sig Unit} {u : ℕ} (hu : u = 1)
    {Q : α → sProp 𝕄} {k : PUnit → TcProg F α} :
    iprop(Shared X K ∗ owes (d : Thread nD τ) (O + tallyAt (barCell (flip d a)) () 1) W ∗ dutyTok ER (barCell (flip d a)) 0 a
        ∗ barPay (flip d a) a)
      ⊢ iprop((owes (d : Thread nD τ) O W -∗ Runs d (k ⟨⟩) Q) -∗ Runs d (Prog.op (.semSignal (Dev.tc p : Thread nD τ) barS u) k) Q) := by
  subst hp hu
  iintro ⟨#HS, HO, Ht, Hp⟩
  have hI := shared_inv X K (flip d a) 0
  have hr := shared_reached X K (flip d a) 0
  have hpay : barPay (flip d a) a ⊢ (Rd X).payload (((flip d a : Dev nD) : Thread nD τ), .reg barS) 0 a := BI.Entails.refl _
  iapply (Rounds.wp_signal 𝒱₀ ER (Rd X) (d : Thread nD τ) none (dst := ((flip d a : Dev nD) : Thread nD τ)) (sem := barS) (κ := K (flip d a, 0))
      (r := 0) (d := a) (Finset.mem_univ _) (amount_bar X (flip d a) 0 a) () O rfl)
  isplitr; · iapply hI; iexact HS
  isplitl [HO]; · iexact HO
  isplitl [Ht]; · iexact Ht
  isplitl [Hp]; · iapply hpay; iexact Hp
  iapply hr; iexact HS

/-- Part 1: the handshake. The barrier semaphore is done with after it. -/
theorem part1 {Q : α → sProp 𝕄}
    {k : (Σ' (_ : Dev nD) (_ : BitVec 32) (_ : BitVec 32) (_ : BitVec 32) (_ : BitVec 32), BitVec 32) → TcProg F α}
    (h : ∀ a b c e f, iprop(semVal (barCell d) 0 ∗ At X K d 0 (fun _ => .ready 0)) ⊢ Runs d (k ⟨d, a, b, c, e, f⟩) Q) :
    Opening X K d ⊢ Runs d (k0_part1 xM h0 oM h1 sM h2 cc0_scratch1 cc0_scratch2 >>= k) Q := by
  rw [k0_part1_eq_skeleton]; unfold k0_part1_skel
  simp only [semSignalWord, semWaitWord, Prog.lift, Prog.bind_op, Prog.bind_ret, Prog.pure_eq_ret, wp_deviceId]
  unfold Opening
  iintro ⟨#HS, ⟨%W, HO⟩, ⟨Hat, Hc⟩, Ht, HR, Hbuf⟩
  ihave Hbuf := (buffers_cut X d) $$ Hbuf
  icases Hbuf with ⟨Hown, Hpay⟩
  ihave Ht := (Entails.of_eq (bigSep_three _)) $$ Ht
  ihave Hpay := (Entails.of_eq (bigSep_three _)) $$ Hpay
  icases Ht with ⟨Ht0, Ht1, Ht2⟩
  icases Hpay with ⟨Hp0, Hp1, Hp2⟩
  iapply (signal_across X K 0 (dev1_eq d) (O := owed₂ d) (by decide)) $$ [HO Ht0 Hp0]
  · isplitr; · iexact HS
    isplitl [HO]; · iexact HO
    isplitl [Ht0]; · iexact Ht0
    iexact Hp0
  iintro HO
  iapply (signal_across X K 1 (dev2_eq d) (O := owed₁ d) (by decide)) $$ [HO Ht1 Hp1]
  · isplitr; · iexact HS
    isplitl [HO]; · iexact HO
    isplitl [Ht1]; · iexact Ht1
    iexact Hp1
  iintro HO
  iapply (signal_across X K 2 (dev3_eq d) (O := owed d 0) (by decide)) $$ [HO Ht2 Hp2]
  · isplitr; · iexact HS
    isplitl [HO]; · iexact HO
    isplitl [Ht2]; · iexact Ht2
    iexact Hp2
  iintro HO
  have hI := shared_inv X K d 0
  have hw := wait_bar_ok X K d
  have hrest : bigSep ((Rd X).duties ((d : Thread nD τ), .reg barS) 0 \ ∅) (fun a => (Rd X).payload ((d : Thread nD τ), .reg barS) 0 a)
      = bigSep Finset.univ fun c => bigSep Finset.univ fun k => dstRows (F := F) d c k := (rest_bar X d).trans (barPay_in d)
  iapply (Rounds.wp_wait_rest_token 𝒱₀ ER (Rd X) (d : Thread nD τ) none (κ := K (d, 0))
      (wpE_semWait_eq 𝒱₀ (d : Thread nD τ) none Set.univ) (Set.mem_univ _) () (O := owed d 0) (W := W) (R := 0) (m := 0) (T := ∅)
      (by rw [Nat.zero_add]; exact (expect_bar X d).symm)) $$ [Hc HO Hat]
  · isplitr; · iapply hI; iexact HS
    isplitl [Hc]; · iexact Hc
    isplitl [HO]; · iexact HO
    isplitr; · iapply hw; iexact HS
    iexact Hat
  iintro ⟨HO, Hat, -, Hpay⟩
  ihave Hp := (Entails.of_eq hrest) $$ Hpay
  imod (Rounds.cell_close ER (Rd X) (Set.mem_univ (K (d, 0))) (fun h => h) (R := 0 + 1) (duties_bar_later X d)) $$ [Hat] with Hz
  · isplitr; · iapply hI; iexact HS
    iexact Hat
  have hh : iprop((bigSep Finset.univ fun c => Ready (F := F) d c 0) ∗ (bigSep Finset.univ fun c => iprop(xBoth X d c ∗ blank d c 0))
      ∗ bigSep Finset.univ fun c => bigSep Finset.univ fun k => dstRows d c k) ⊢ bigSep Finset.univ fun c => Holds X d c (.ready 0) := by
    rw [← bigSep_sep', ← bigSep_sep']
    exact bigSep_mono fun c _ => chain_ready X d c
  iapply (h _ _ _ _ _)
  isplitl [Hz]; · iexact Hz
  rw [at_all]
  isplitr; · iexact HS
  isplitl [HO]; · (unfold Owing; iexists _; iexact HO)
  iapply hh
  isplitl [HR]; · iexact HR
  isplitl [Hown]; · iexact Hown
  iexact Hp

end Start

end Cert.AllReduce

end
-- ==== Proof.Ops.lean ====
/-
The operations of the kernel on one chain: each transfer, each wait, each load and each store, as it takes the chain from
one phase to the next.
-/
module

public import proofs.«01_k».proof.Proof.Chain

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Credits -/

section Credit
variable {n : ℕ} {off : Fin 2 → ℕ}

theorem credit_x {inb : ∀ a, off a + (![n, 1024] : Fin 2 → ℕ) a ≤ (RowsS 2048).size a} :
    (xM.slice (Rect.unit (s := RowsS 2048) off ![n, 1024] inb) (fun _ => rfl)).view.dmaCredit = credit n := rfl
theorem credit_o {inb : ∀ a, off a + (![n, 1024] : Fin 2 → ℕ) a ≤ (RowsS 2048).size a} :
    (oM.slice (Rect.unit (s := RowsS 2048) off ![n, 1024] inb) (fun _ => rfl)).view.dmaCredit = credit n := rfl
theorem credit_s {inb : ∀ a, off a + (![n, 1024] : Fin 2 → ℕ) a ≤ (RowsS 1792).size a} :
    (sM.slice (Rect.unit (s := RowsS 1792) off ![n, 1024] inb) (fun _ => rfl)).view.dmaCredit = credit n := rfl

end Credit

/-! ## Transfers -/

section Sends
variable (X : Dev nD → Tab F) (K : Dev nD × Fin 43 → ℕ) (c : Fin 6) {d p : Dev nD} {i n : ℕ} {off off' : Fin 2 → ℕ}
  {qS qR : DmaSem sig}

/-- What lands of the other device's partial sums, seen from the device that sends them. -/
theorem landed_of_sent (d : Dev nD) (c : Fin 6) (k : Fin 3) :
    rowsOf (psum X k.val d) (give d c k) (sz c k)
      = rowsOf (shift (psum X k.val (peer (peer d c k) c k)) (land c k) (keep (peer d c k) c k)) (land c k) (sz c k) := by
  rw [rowsOf_shift', peer_peer, keep_peer]

/-- The rows sent are the rows of the other device's result that the receiver keeps. -/
theorem theirs_of_sent (d : Dev nD) (c : Fin 6) (k : Fin 3) :
    anyRows oM d (give d c k) (sz c k) ⊢ theirs (F := F) (peer d c k) c k := by
  unfold theirs; rw [peer_peer, keep_peer]

/-- The transfer of stage 0 reads the input and writes the other device's scratch. -/
theorem send0 {α : Type} {Q : α → sProp 𝕄} {k : PUnit → TcProg F α} (hp : p = peer d c 0)
    (ho : off = ![give d c 0, 0]) (ho' : off' = ![land c 0, 0] := by rfl)
    {inb : ∀ a, off a + (![n, 1024] : Fin 2 → ℕ) a ≤ (RowsS 2048).size a}
    {inb' : ∀ a, off' a + (![n, 1024] : Fin 2 → ℕ) a ≤ (RowsS 1792).size a}
    (hn : n = sz c 0 := by rfl) (hi : i = place c 0 := by decide)
    (hS : SemLoc.dma qS = csem (iSend c) := by rfl) (hR : SemLoc.dma qR = csem (iRecv c 0) := by rfl)
    {hsc : (sM.slice (Rect.unit (s := RowsS 1792) off' ![n, 1024] inb') (fun _ => rfl)).view.ref.isScScratch = false}
    {hsrc : (xM.slice (Rect.unit (s := RowsS 2048) off ![n, 1024] inb) (fun _ => rfl)).view.WordExact}
    {hdst : (sM.slice (Rect.unit (s := RowsS 1792) off' ![n, 1024] inb') (fun _ => rfl)).view.WordExact}
    {hsem : DmaTarget.Typed .vmem (.dma qR) (.remote (Dev.tc p : Thread nD τ)
      (sM.slice (Rect.unit (s := RowsS 1792) off' ![n, 1024] inb') (fun _ => rfl)) (.dma qS) hsc)} :
    iprop(Shared X K ∗ Owing (F := F) d i ∗ Holds X d c (.ready 0))
      ⊢ iprop(((Owing (F := F) d (i + 1) ∗ Holds X d c (.sent 0)) -∗ Runs d (k ⟨⟩) Q)
          -∗ Runs d (Prog.op (.enqueueDma (xM.slice (Rect.unit (s := RowsS 2048) off ![n, 1024] inb) (fun _ => rfl))
              (.remote (Dev.tc p : Thread nD τ) (sM.slice (Rect.unit (s := RowsS 1792) off' ![n, 1024] inb') (fun _ => rfl)) (.dma qS) hsc)
              (.dma qR) hsrc hdst hsem) k) Q) := by
  subst hn hi
  have h₂ : rows sM (peer d c 0) (land c 0) (sz c 0) (shift (psum X 0 (peer (peer d c 0) c 0)) (land c 0) (keep (peer d c 0) c 0))
      ⊢ recvPay X (peer d c (stageAxis 0)) c 0 := BI.Entails.refl _
  have hr := send_rows X K xM sM c (by decide) hp ho ho' hS hR (landed_of_sent X d c 0) (hsc := hsc) (hsrc := hsrc) (hdst := hdst)
    (hsem := hsem) (credit_s.trans rfl) (Q := Q) (k := k) (BI.Entails.refl _) h₂
  show iprop(Shared X K ∗ Owing (F := F) d (place c 0) ∗ (Ready (F := F) d c 0 ∗ rows xM d (give d c 0) (sz c 0) (psum X 0 d)
      ∗ anyRows sM (peer d c (stageAxis 0)) (land c 0) (sz c 0) ∗ sentM X d c 0))
    ⊢ iprop(((Owing (F := F) d (place c 0 + 1) ∗ (Flying (F := F) d c 0 ∗ sentM X d c 0)) -∗ Runs d (k ⟨⟩) Q) -∗ _)
  iintro ⟨#HS, HO, HR, Hs, Hd, Hm⟩ Hk
  iapply hr $$ [HO HR Hs Hd]
  · isplitr; · iexact HS
    isplitl [HO]; · iexact HO
    isplitl [HR]; · iexact HR
    isplitl [Hs]; · iexact Hs
    iexact Hd
  iintro ⟨HO, HF⟩
  iapply Hk
  isplitl [HO]; · iexact HO
  isplitl [HF]; · iexact HF
  iexact Hm

/-- The transfers of stages 1 and 2 read the result and write the other device's scratch. -/
theorem send12 (s : Fin 3) (hs0 : s = 1 ∨ s = 2) {α : Type} {Q : α → sProp 𝕄} {k : PUnit → TcProg F α} (hp : p = peer d c s)
    (ho : off = ![give d c s, 0]) (ho' : off' = ![land c s, 0] := by rfl)
    {inb : ∀ a, off a + (![n, 1024] : Fin 2 → ℕ) a ≤ (RowsS 2048).size a}
    {inb' : ∀ a, off' a + (![n, 1024] : Fin 2 → ℕ) a ≤ (RowsS 1792).size a}
    (hn : n = sz c s := by rfl) (hi : i = place c s.val := by decide)
    (hS : SemLoc.dma qS = csem (iSend c) := by rfl) (hR : SemLoc.dma qR = csem (iRecv c (Fin.ofNat 6 s.val)) := by rfl)
    {hsc : (sM.slice (Rect.unit (s := RowsS 1792) off' ![n, 1024] inb') (fun _ => rfl)).view.ref.isScScratch = false}
    {hsrc : (oM.slice (Rect.unit (s := RowsS 2048) off ![n, 1024] inb) (fun _ => rfl)).view.WordExact}
    {hdst : (sM.slice (Rect.unit (s := RowsS 1792) off' ![n, 1024] inb') (fun _ => rfl)).view.WordExact}
    {hsem : DmaTarget.Typed .vmem (.dma qR) (.remote (Dev.tc p : Thread nD τ)
      (sM.slice (Rect.unit (s := RowsS 1792) off' ![n, 1024] inb') (fun _ => rfl)) (.dma qS) hsc)} :
    iprop(Shared X K ∗ Owing (F := F) d i ∗ Holds X d c (.ready s.val))
      ⊢ iprop(((Owing (F := F) d (i + 1) ∗ Holds X d c (.mid s.val)) -∗ Runs d (k ⟨⟩) Q)
          -∗ Runs d (Prog.op (.enqueueDma (oM.slice (Rect.unit (s := RowsS 2048) off ![n, 1024] inb) (fun _ => rfl))
              (.remote (Dev.tc p : Thread nD τ) (sM.slice (Rect.unit (s := RowsS 1792) off' ![n, 1024] inb') (fun _ => rfl)) (.dma qS) hsc)
              (.dma qR) hsrc hdst hsem) k) Q) := by
  subst hn hi
  have hax : stageAxis s.val = s := by rcases hs0 with rfl | rfl <;> rfl
  have hsrcM : srcM X d c s.val = rows oM d (give d c s) (sz c s) (psum X s.val d) := by rcases hs0 with rfl | rfl <;> rfl
  have hdstM : dstM (F := F) d c s.val = anyRows sM (peer d c s) (land c s) (sz c s) := by rcases hs0 with rfl | rfl <;> rfl
  have hemp : (emp : sProp 𝕄) ⊢ sendPay X d c s.val := by rcases hs0 with rfl | rfl <;> exact BI.Entails.refl _
  have hpay : iprop(landed X (peer d c s) c s ∗ theirs (F := F) (peer d c s) c s) ⊢ recvPay X (peer d c s) c s.val := by
    rcases hs0 with rfl | rfl <;> exact BI.Entails.refl _
  have hth := theirs_of_sent (F := F) d c s
  have h₂ : iprop(rows sM (peer d c (stageAxis s.val)) (land c s) (sz c s) (shift (psum X s.val (peer (peer d c s) c s)) (land c s) (keep (peer d c s) c s))
        ∗ anyRows oM d (give d c s) (sz c s))
      ⊢ recvPay X (peer d c (stageAxis s.val)) c s.val := by
    rw [hax]
    iintro ⟨H1, H2⟩
    iapply hpay
    unfold landed
    isplitl [H1]; · iexact H1
    iapply hth; iexact H2
  have hr := send_rows_away X K oM sM c (s := s.val) (lo' := land c s) (by omega) (by rw [hax]; exact hp) ho ho' hS hR (landed_of_sent X d c s) (hsc := hsc) (hsrc := hsrc)
    (hdst := hdst) (hsem := hsem) (credit_s.trans (by unfold amt; rw [hax])) (Q := Q) (k := k) hemp h₂
  rw [hax] at hr
  show iprop(Shared X K ∗ Owing (F := F) d (place c s.val) ∗ (Ready (F := F) d c s.val ∗ srcM X d c s.val ∗ dstM (F := F) d c s.val ∗ midM X d c s.val))
    ⊢ iprop(((Owing (F := F) d (place c s.val + 1) ∗ (Flying (F := F) d c s.val ∗ midM X d c s.val)) -∗ Runs d (k ⟨⟩) Q) -∗ _)
  rw [hsrcM, hdstM]
  iintro ⟨#HS, HO, HR, Hs, Hd, Hm⟩ Hk
  iapply hr $$ [HO HR Hs Hd]
  · isplitr; · iexact HS
    isplitl [HO]; · iexact HO
    isplitl [HR]; · iexact HR
    isplitl [Hs]; · iexact Hs
    iexact Hd
  iintro ⟨HO, HF⟩
  iapply Hk
  isplitl [HO]; · iexact HO
  isplitl [HF]; · iexact HF
  iexact Hm

/-- The transfers of stages 3 to 5 read the result and write the other device's result. -/
theorem send345 (s : ℕ) (hs : 3 ≤ s ∧ s < 6) {α : Type} {Q : α → sProp 𝕄} {k : PUnit → TcProg F α} (hp : p = peer d c (stageAxis s))
    (ho : off = ![keep d c (stageAxis s), 0])
    {inb inb' : ∀ a, off a + (![n, 1024] : Fin 2 → ℕ) a ≤ (RowsS 2048).size a}
    (hn : n = sz c (stageAxis s) := by rfl) (hi : i = place c s := by decide)
    (hS : SemLoc.dma qS = csem (iSend c) := by rfl) (hR : SemLoc.dma qR = csem (iRecv c (Fin.ofNat 6 s)) := by rfl)
    {hsc : (oM.slice (Rect.unit (s := RowsS 2048) off ![n, 1024] inb') (fun _ => rfl)).view.ref.isScScratch = false}
    {hsrc : (oM.slice (Rect.unit (s := RowsS 2048) off ![n, 1024] inb) (fun _ => rfl)).view.WordExact}
    {hdst : (oM.slice (Rect.unit (s := RowsS 2048) off ![n, 1024] inb') (fun _ => rfl)).view.WordExact}
    {hsem : DmaTarget.Typed .vmem (.dma qR) (.remote (Dev.tc p : Thread nD τ)
      (oM.slice (Rect.unit (s := RowsS 2048) off ![n, 1024] inb') (fun _ => rfl)) (.dma qS) hsc)} :
    iprop(Shared X K ∗ Owing (F := F) d i ∗ Holds X d c (.ready s))
      ⊢ iprop(((Owing (F := F) d (i + 1) ∗ Holds X d c (.sent s)) -∗ Runs d (k ⟨⟩) Q)
          -∗ Runs d (Prog.op (.enqueueDma (oM.slice (Rect.unit (s := RowsS 2048) off ![n, 1024] inb) (fun _ => rfl))
              (.remote (Dev.tc p : Thread nD τ) (oM.slice (Rect.unit (s := RowsS 2048) off ![n, 1024] inb') (fun _ => rfl)) (.dma qS) hsc)
              (.dma qR) hsrc hdst hsem) k) Q) := by
  subst hn hi
  have hc : s = 3 ∨ s = 4 ∨ s = 5 := by omega
  have hsrcM : srcM X d c s = rows oM d (keep d c (stageAxis s)) (sz c (stageAxis s)) (total X) := by
    rcases hc with rfl | rfl | rfl <;> rfl
  have hdstM : dstM (F := F) d c s = anyRows oM (peer d c (stageAxis s)) (keep d c (stageAxis s)) (sz c (stageAxis s)) := by
    rcases hc with rfl | rfl | rfl <;> rfl
  have hmid : midM X d c s = sentM X d c s := by rcases hc with rfl | rfl | rfl <;> rfl
  have h₁ : rows oM d (keep d c (stageAxis s)) (sz c (stageAxis s)) (total X) ⊢ sendPay X d c s := by
    rcases hc with rfl | rfl | rfl <;> exact BI.Entails.refl _
  have h₂ : rows oM (peer d c (stageAxis s)) (keep d c (stageAxis s)) (sz c (stageAxis s)) (total X)
      ⊢ recvPay X (peer d c (stageAxis s)) c s := by
    rw [← give_peer]
    rcases hc with rfl | rfl | rfl <;> exact BI.Entails.refl _
  have hr := send_rows X K oM oM c hs.2 hp ho ho hS hR rfl (hsc := hsc) (hsrc := hsrc) (hdst := hdst)
    (hsem := hsem) (credit_o.trans rfl) (Q := Q) (k := k) h₁ h₂
  show iprop(Shared X K ∗ Owing (F := F) d (place c s) ∗ (Ready (F := F) d c s ∗ srcM X d c s ∗ dstM (F := F) d c s ∗ midM X d c s))
    ⊢ iprop(((Owing (F := F) d (place c s + 1) ∗ (Flying (F := F) d c s ∗ sentM X d c s)) -∗ Runs d (k ⟨⟩) Q) -∗ _)
  rw [hsrcM, hdstM, hmid]
  iintro ⟨#HS, HO, HR, Hs, Hd, Hm⟩ Hk
  iapply hr $$ [HO HR Hs Hd]
  · isplitr; · iexact HS
    isplitl [HO]; · iexact HO
    isplitl [HR]; · iexact HR
    isplitl [Hs]; · iexact Hs
    iexact Hd
  iintro ⟨HO, HF⟩
  iapply Hk
  isplitl [HO]; · iexact HO
  isplitl [HF]; · iexact HF
  iexact Hm

end Sends

/-! ## Waits -/

section Waits
variable (X : Dev nD → Tab F) (K : Dev nD × Fin 43 → ℕ) (c : Fin 6) {d : Dev nD} {i n : ℕ} (s : ℕ)

/-- The wait for the device's own transfer. -/
theorem await_own {sem : DmaSem sig} {sp sp' : Space} {sh sh' : Shape} {e e' : EltTy}
    {src : Memref sig .tc sp' sh' e'} {dst : Memref sig .tc sp sh e} {hsrc : src.view.WordExact} {hdst : dst.view.WordExact}
    (hN : dst.view.dmaCredit = credit n) {α : Type} {Q : α → sProp 𝕄} {k : PUnit → TcProg F α}
    (hs : s < 6 := by decide) (hn : n = sz c (stageAxis s) := by rfl) (hsem : SemLoc.dma sem = csem (iSend c) := by rfl) :
    iprop(Shared X K ∗ Owing (F := F) d i ∗ Holds X d c (.sent s))
      ⊢ iprop(((Owing (F := F) d i ∗ Holds X d c (.back s)) -∗ Runs d (k ⟨⟩) Q)
          -∗ Runs d (Prog.op (.waitDma2 sem src dst hsrc hdst) k) Q) := by
  subst hn
  have hr := wait_send X K c hs (src := src) (hsrc := hsrc) (hdst := hdst) hN hsem (d := d) (n := i) (Q := Q) (k := k)
  show iprop(Shared X K ∗ Owing (F := F) d i ∗ (Flying (F := F) d c s ∗ sentM X d c s))
    ⊢ iprop(((Owing (F := F) d i ∗ (Waiting (F := F) d c s ∗ sendPay X d c s ∗ sentM X d c s)) -∗ Runs d (k ⟨⟩) Q) -∗ _)
  iintro ⟨#HS, HO, HF, Hm⟩ Hk
  iapply hr $$ [HO HF]
  · isplitr; · iexact HS
    isplitl [HO]; · iexact HO
    iexact HF
  iintro ⟨HO, HW, Hp⟩
  iapply Hk
  isplitl [HO]; · iexact HO
  isplitl [HW]; · iexact HW
  isplitl [Hp]; · iexact Hp
  iexact Hm

/-- The wait for the other device's transfer. -/
theorem await_other {sem : DmaSem sig} {sp sp' : Space} {sh sh' : Shape} {e e' : EltTy}
    {src : Memref sig .tc sp' sh' e'} {dst : Memref sig .tc sp sh e} {hsrc : src.view.WordExact} {hdst : dst.view.WordExact}
    (hN : dst.view.dmaCredit = credit n) {α : Type} {Q : α → sProp 𝕄} {k : PUnit → TcProg F α}
    (hs : s < 6 := by decide) (hn : n = sz c (stageAxis s) := by rfl)
    (hsem : SemLoc.dma sem = csem (iRecv c (Fin.ofNat 6 s)) := by rfl) (hi : place c s < i := by decide) :
    iprop(Shared X K ∗ Owing (F := F) d i ∗ Holds X d c (.back s))
      ⊢ iprop(((Owing (F := F) d i ∗ Holds X d c (.got s)) -∗ Runs d (k ⟨⟩) Q)
          -∗ Runs d (Prog.op (.waitDma2 sem src dst hsrc hdst) k) Q) := by
  subst hn
  have hr := wait_recv X K c hs (src := src) (hsrc := hsrc) (hdst := hdst) hN hsem (d := d) hi (Q := Q) (k := k)
  show iprop(Shared X K ∗ Owing (F := F) d i ∗ (Waiting (F := F) d c s ∗ sendPay X d c s ∗ sentM X d c s))
    ⊢ iprop(((Owing (F := F) d i ∗ (Ready (F := F) d c (s + 1) ∗ recvPay X d c s ∗ sendPay X d c s ∗ sentM X d c s)) -∗ Runs d (k ⟨⟩) Q) -∗ _)
  iintro ⟨#HS, HO, HW, Hp, Hm⟩ Hk
  iapply hr $$ [HO HW]
  · isplitr; · iexact HS
    isplitl [HO]; · iexact HO
    iexact HW
  iintro ⟨HO, HR, Hq⟩
  iapply Hk
  isplitl [HO]; · iexact HO
  isplitl [HR]; · iexact HR
  isplitl [Hq]; · iexact Hq
  isplitl [Hp]; · iexact Hp
  iexact Hm

/-- After the last three stages' waits the rows received and the rows sent are one piece again. -/
theorem ready_of_got (d : Dev nD) (c : Fin 6) (s : ℕ) (hs : 3 ≤ s ∧ s < 6) : Holds X d c (.got s) ⊢ Holds X d c (.ready (s + 1)) := by
  have hc : s = 3 ∨ s = 4 ∨ s = 5 := by omega
  rcases hc with rfl | rfl | rfl
  · have hj := rows_unhalve oM d (sz_two c) (keep_give d c 2) (total X)
    rw [lead_two] at hj
    show iprop(Ready (F := F) d c 4 ∗ rows oM d (give d c 2) (sz c 2) (total X) ∗ rows oM d (keep d c 2) (sz c 2) (total X)
        ∗ (xBoth X d c ∗ spent (F := F) d c 0 ∗ spent (F := F) d c 1 ∗ spent (F := F) d c 2 ∗ theirs (F := F) d c 0 ∗ theirs (F := F) d c 1))
      ⊢ iprop(Ready (F := F) d c 4 ∗ rows oM d (keep d c 1) (sz c 1) (total X) ∗ theirs (F := F) d c 1
        ∗ (xBoth X d c ∗ spent (F := F) d c 0 ∗ spent (F := F) d c 1 ∗ spent (F := F) d c 2 ∗ theirs (F := F) d c 0))
    iintro ⟨HR, Hg, Hk, Hx, H0, H1, H2, E0, E1⟩
    isplitl [HR]; · iexact HR
    isplitl [Hg Hk]
    · iapply hj
      isplitl [Hk]; · iexact Hk
      iexact Hg
    isplitl [E1]; · iexact E1
    isplitl [Hx]; · iexact Hx
    isplitl [H0]; · iexact H0
    isplitl [H1]; · iexact H1
    isplitl [H2]; · iexact H2
    iexact E0
  · have hj := rows_unhalve oM d (sz_one c) (keep_give d c 1) (total X)
    rw [lead_one] at hj
    show iprop(Ready (F := F) d c 5 ∗ rows oM d (give d c 1) (sz c 1) (total X) ∗ rows oM d (keep d c 1) (sz c 1) (total X)
        ∗ (xBoth X d c ∗ spent (F := F) d c 0 ∗ spent (F := F) d c 1 ∗ spent (F := F) d c 2 ∗ theirs (F := F) d c 0))
      ⊢ iprop(Ready (F := F) d c 5 ∗ rows oM d (keep d c 0) (sz c 0) (total X) ∗ theirs (F := F) d c 0
        ∗ (xBoth X d c ∗ spent (F := F) d c 0 ∗ spent (F := F) d c 1 ∗ spent (F := F) d c 2))
    iintro ⟨HR, Hg, Hk, Hx, H0, H1, H2, E0⟩
    isplitl [HR]; · iexact HR
    isplitl [Hg Hk]
    · iapply hj
      isplitl [Hk]; · iexact Hk
      iexact Hg
    isplitl [E0]; · iexact E0
    isplitl [Hx]; · iexact Hx
    isplitl [H0]; · iexact H0
    isplitl [H1]; · iexact H1
    iexact H2
  · have hj := rows_unhalve oM d (sz_zero c) (keep_give d c 0) (total X)
    rw [lead_zero] at hj
    show iprop(Ready (F := F) d c 6 ∗ rows oM d (give d c 0) (sz c 0) (total X) ∗ rows oM d (keep d c 0) (sz c 0) (total X)
        ∗ (xBoth X d c ∗ spent (F := F) d c 0 ∗ spent (F := F) d c 1 ∗ spent (F := F) d c 2))
      ⊢ iprop(Ready (F := F) d c 6 ∗ rows oM d (base c) (8 * eighth c) (total X) ∗ emp
        ∗ (xBoth X d c ∗ spent (F := F) d c 0 ∗ spent (F := F) d c 1 ∗ spent (F := F) d c 2))
    iintro ⟨HR, Hg, Hk, Hx, H0, H1, H2⟩
    isplitl [HR]; · iexact HR
    isplitl [Hg Hk]
    · iapply hj
      isplitl [Hk]; · iexact Hk
      iexact Hg
    isplitr; · iempintro
    isplitl [Hx]; · iexact Hx
    isplitl [H0]; · iexact H0
    isplitl [H1]; · iexact H1
    iexact H2

/-- The wait for the other device's transfer in the last three stages. -/
theorem await_last {sem : DmaSem sig} {sp sp' : Space} {sh sh' : Shape} {e e' : EltTy}
    {src : Memref sig .tc sp' sh' e'} {dst : Memref sig .tc sp sh e} {hsrc : src.view.WordExact} {hdst : dst.view.WordExact}
    (hN : dst.view.dmaCredit = credit n) {α : Type} {Q : α → sProp 𝕄} {k : PUnit → TcProg F α}
    (hs : 3 ≤ s ∧ s < 6 := by decide) (hn : n = sz c (stageAxis s) := by rfl)
    (hsem : SemLoc.dma sem = csem (iRecv c (Fin.ofNat 6 s)) := by rfl) (hi : place c s < i := by decide) :
    iprop(Shared X K ∗ Owing (F := F) d i ∗ Holds X d c (.back s))
      ⊢ iprop(((Owing (F := F) d i ∗ Holds X d c (.ready (s + 1))) -∗ Runs d (k ⟨⟩) Q)
          -∗ Runs d (Prog.op (.waitDma2 sem src dst hsrc hdst) k) Q) := by
  have hr := await_other X K c s (src := src) (hsrc := hsrc) (hdst := hdst) hN hs.2 hn hsem hi (d := d) (Q := Q) (k := k)
  have hj := ready_of_got X d c s hs
  iintro H Hk
  iapply hr $$ H
  iintro ⟨HO, HG⟩
  iapply Hk
  isplitl [HO]; · iexact HO
  iapply hj; iexact HG

end Waits

end Cert.AllReduce

end
-- ==== Proof.Pieces.lean ====
/-
The additions. After a receipt the device adds what landed to rows of its own, in one piece or two: it loads its own
rows, loads the rows landed, and stores the sum over rows of the result. The five kinds of piece are described once, and
the three operations are stated of any piece.
-/
module

public import proofs.«01_k».proof.Proof.Ops

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of an addition: which of the three it belongs to, the phases before and after, the rows. -/
structure Piece (X : Dev nD → Tab F) (d : Dev nD) (c : Fin 6) where
  /-- The addition: the `k`-th partial sums to the next. -/
  k : Fin 3
  old : Phase
  new : Phase
  /-- The first row and the number of rows. -/
  lo : ℕ
  n : ℕ
  /-- The memref that holds the device's own partial sums. -/
  m : Memref sig .tc .vmem (RowsS 2048) .f32
  le : keep d c k ≤ lo
  ge : lo + n ≤ keep d c k + sz c k
  /-- The rows the device's own partial sums are held on. -/
  lo' : ℕ
  n' : ℕ
  le' : lo' ≤ lo
  ge' : lo + n ≤ lo' + n'
  /-- The device's own partial sums can be borrowed, -/
  own : Holds X d c old ⊢ iprop(rows m d lo' n' (psum X k.val d) ∗ (rows m d lo' n' (psum X k.val d) -∗ Holds X d c old))
  /-- so can the ones landed, -/
  arrived : Holds X d c old ⊢ iprop(landed X d c k ∗ (landed X d c k -∗ Holds X d c old))
  /-- and the rows of the result can be overwritten with the next partial sums. -/
  put : Holds X d c old ⊢ iprop(anyRows oM d lo n ∗ (rows oM d lo n (psum X (k.val + 1) d) -∗ Holds X d c new))

section Kinds
variable (X : Dev nD → Tab F) (d : Dev nD) (c : Fin 6)

theorem give_inside (d : Dev nD) (c : Fin 6) : (keep d c 0 ≤ give d c 1 ∧ give d c 1 + sz c 1 ≤ keep d c 0 + sz c 0)
    ∧ keep d c 1 ≤ give d c 2 ∧ give d c 2 + sz c 2 ≤ keep d c 1 + sz c 1 := by
  have h1 := keep_give d c 1
  have h2 := keep_give d c 2
  rw [lead_one] at h1
  rw [lead_two] at h2
  have := sz_one c
  have := sz_two c
  omega
theorem keep_inside (d : Dev nD) (c : Fin 6) : (keep d c 0 ≤ keep d c 1 ∧ keep d c 1 + sz c 1 ≤ keep d c 0 + sz c 0)
    ∧ keep d c 1 ≤ keep d c 2 ∧ keep d c 2 + sz c 2 ≤ keep d c 1 + sz c 1 := by
  have h1 := keep_give d c 1
  have h2 := keep_give d c 2
  rw [lead_one] at h1
  rw [lead_two] at h2
  have := sz_one c
  have := sz_two c
  omega

/-- After the first receipt: the half sent next. -/
def firstX : Piece X d c where
  k := 0
  old := .got 0
  new := .ready 1
  lo := give d c 1
  n := sz c 1
  m := xM
  le := (give_inside d c).1.1
  ge := (give_inside d c).1.2
  lo' := keep d c 0
  n' := sz c 0
  le' := (give_inside d c).1.1
  ge' := (give_inside d c).1.2
  own := by
    show iprop(Ready (F := F) d c 1 ∗ landed X d c 0 ∗ xGive X d c ∗ (xKeep X d c ∗ blank (F := F) d c 0 ∗ across (F := F) d c 1 ∗ across (F := F) d c 2 ∗ theirs (F := F) d c 0))
      ⊢ iprop(xKeep X d c ∗ (xKeep X d c -∗ Ready (F := F) d c 1 ∗ landed X d c 0 ∗ xGive X d c
        ∗ (xKeep X d c ∗ blank (F := F) d c 0 ∗ across (F := F) d c 1 ∗ across (F := F) d c 2 ∗ theirs (F := F) d c 0)))
    iintro ⟨HR, HL, HG, HK, HM⟩
    isplitl [HK]; · iexact HK
    iintro HK
    isplitl [HR]; · iexact HR
    isplitl [HL]; · iexact HL
    isplitl [HG]; · iexact HG
    isplitl [HK]; · iexact HK
    iexact HM
  arrived := by
    show iprop(Ready (F := F) d c 1 ∗ landed X d c 0 ∗ xGive X d c ∗ sentM X d c 0)
      ⊢ iprop(landed X d c 0 ∗ (landed X d c 0 -∗ Ready (F := F) d c 1 ∗ landed X d c 0 ∗ xGive X d c ∗ sentM X d c 0))
    iintro ⟨HR, HL, HG⟩
    isplitl [HL]; · iexact HL
    iintro HL
    isplitl [HR]; · iexact HR
    isplitl [HL]; · iexact HL
    iexact HG
  put := by
    have hs := any_halves (F := F) oM d (sz_one c) (keep_give d c 1)
    rw [lead_one] at hs
    show iprop(Ready (F := F) d c 1 ∗ landed X d c 0 ∗ xGive X d c ∗ (xKeep X d c ∗ anyRows (F := F) oM d (keep d c 0) (sz c 0) ∗ across (F := F) d c 1 ∗ across (F := F) d c 2 ∗ theirs (F := F) d c 0))
      ⊢ iprop(anyRows oM d (give d c 1) (sz c 1) ∗ (rows oM d (give d c 1) (sz c 1) (psum X 1 d) -∗ Ready (F := F) d c 1
        ∗ rows oM d (give d c 1) (sz c 1) (psum X 1 d) ∗ across (F := F) d c 1
        ∗ ((xKeep X d c ∗ xGive X d c) ∗ anyRows (F := F) oM d (keep d c 1) (sz c 1) ∗ landed X d c 0 ∗ across (F := F) d c 2 ∗ theirs (F := F) d c 0)))
    iintro ⟨HR, HL, HG, HK, HB, A1, A2, E0⟩
    ihave HB := hs $$ HB
    icases HB with ⟨B1, B2⟩
    isplitl [B2]; · iexact B2
    iintro B2
    isplitl [HR]; · iexact HR
    isplitl [B2]; · iexact B2
    isplitl [A1]; · iexact A1
    isplitl [HK HG]
    · isplitl [HK]; · iexact HK
      iexact HG
    isplitl [B1]; · iexact B1
    isplitl [HL]; · iexact HL
    isplitl [A2]; · iexact A2
    iexact E0

/-- After the first receipt: the half kept. -/
def lazyX : Piece X d c where
  k := 0
  old := .mid 1
  new := .sent 1
  lo := keep d c 1
  n := sz c 1
  m := xM
  le := (keep_inside d c).1.1
  ge := (keep_inside d c).1.2
  lo' := keep d c 0
  n' := sz c 0
  le' := (keep_inside d c).1.1
  ge' := (keep_inside d c).1.2
  own := by
    show iprop(Flying (F := F) d c 1 ∗ ((xKeep X d c ∗ xGive X d c) ∗ blank (F := F) d c 1 ∗ landed X d c 0 ∗ across (F := F) d c 2 ∗ theirs (F := F) d c 0))
      ⊢ iprop(xKeep X d c ∗ (xKeep X d c -∗ Flying (F := F) d c 1
        ∗ ((xKeep X d c ∗ xGive X d c) ∗ blank (F := F) d c 1 ∗ landed X d c 0 ∗ across (F := F) d c 2 ∗ theirs (F := F) d c 0)))
    iintro ⟨HF, ⟨HK, HG⟩, HM⟩
    isplitl [HK]; · iexact HK
    iintro HK
    isplitl [HF]; · iexact HF
    isplitl [HK HG]
    · isplitl [HK]; · iexact HK
      iexact HG
    iexact HM
  arrived := by
    show iprop(Flying (F := F) d c 1 ∗ (xBoth X d c ∗ blank (F := F) d c 1 ∗ landed X d c 0 ∗ across (F := F) d c 2 ∗ theirs (F := F) d c 0))
      ⊢ iprop(landed X d c 0 ∗ (landed X d c 0 -∗ Flying (F := F) d c 1
        ∗ (xBoth X d c ∗ blank (F := F) d c 1 ∗ landed X d c 0 ∗ across (F := F) d c 2 ∗ theirs (F := F) d c 0)))
    iintro ⟨HF, HX, HB, HL, HM⟩
    isplitl [HL]; · iexact HL
    iintro HL
    isplitl [HF]; · iexact HF
    isplitl [HX]; · iexact HX
    isplitl [HB]; · iexact HB
    isplitl [HL]; · iexact HL
    iexact HM
  put := by
    have hl : landed X d c 0 ⊢ spent (F := F) d c 0 := rows_any sM d _ _ _
    show iprop(Flying (F := F) d c 1 ∗ (xBoth X d c ∗ anyRows (F := F) oM d (keep d c 1) (sz c 1) ∗ landed X d c 0 ∗ across (F := F) d c 2 ∗ theirs (F := F) d c 0))
      ⊢ iprop(anyRows oM d (keep d c 1) (sz c 1) ∗ (rows oM d (keep d c 1) (sz c 1) (psum X 1 d) -∗ Flying (F := F) d c 1
        ∗ (xBoth X d c ∗ rows oM d (keep d c 1) (sz c 1) (psum X 1 d) ∗ spent (F := F) d c 0 ∗ across (F := F) d c 2 ∗ theirs (F := F) d c 0)))
    iintro ⟨HF, HX, HB, HL, HM⟩
    isplitl [HB]; · iexact HB
    iintro HB
    isplitl [HF]; · iexact HF
    isplitl [HX]; · iexact HX
    isplitl [HB]; · iexact HB
    isplitl [HL]; · (iapply hl; iexact HL)
    iexact HM

/-- After the second receipt: the half sent next. -/
def firstO : Piece X d c where
  k := 1
  old := .got 1
  new := .ready 2
  lo := give d c 2
  n := sz c 2
  m := oM
  le := (give_inside d c).2.1
  ge := (give_inside d c).2.2
  lo' := keep d c 1
  n' := sz c 1
  le' := (give_inside d c).2.1
  ge' := (give_inside d c).2.2
  own := by
    show iprop(Ready (F := F) d c 2 ∗ (landed X d c 1 ∗ theirs (F := F) d c 1) ∗ emp ∗ (xBoth X d c ∗ kept d c 1 (psum X 1 d) ∗ spent (F := F) d c 0 ∗ across (F := F) d c 2 ∗ theirs (F := F) d c 0))
      ⊢ iprop(kept d c 1 (psum X 1 d) ∗ (kept d c 1 (psum X 1 d) -∗ Ready (F := F) d c 2 ∗ (landed X d c 1 ∗ theirs (F := F) d c 1) ∗ emp
        ∗ (xBoth X d c ∗ kept d c 1 (psum X 1 d) ∗ spent (F := F) d c 0 ∗ across (F := F) d c 2 ∗ theirs (F := F) d c 0)))
    iintro ⟨HR, HL, -, HX, HK, HM⟩
    isplitl [HK]; · iexact HK
    iintro HK
    isplitl [HR]; · iexact HR
    isplitl [HL]; · iexact HL
    isplitr; · iempintro
    isplitl [HX]; · iexact HX
    isplitl [HK]; · iexact HK
    iexact HM
  arrived := by
    show iprop(Ready (F := F) d c 2 ∗ (landed X d c 1 ∗ theirs (F := F) d c 1) ∗ emp ∗ sentM X d c 1)
      ⊢ iprop(landed X d c 1 ∗ (landed X d c 1 -∗ Ready (F := F) d c 2 ∗ (landed X d c 1 ∗ theirs (F := F) d c 1) ∗ emp ∗ sentM X d c 1))
    iintro ⟨HR, ⟨HL, HE⟩, HM⟩
    isplitl [HL]; · iexact HL
    iintro HL
    isplitl [HR]; · iexact HR
    isplitl [HL HE]
    · isplitl [HL]; · iexact HL
      iexact HE
    iexact HM
  put := by
    have hs := rows_halves oM d (sz_two c) (keep_give d c 2) (psum X 1 d)
    rw [lead_two] at hs
    have ha := rows_any oM d (give d c 2) (sz c 2) (psum X 1 d)
    show iprop(Ready (F := F) d c 2 ∗ (landed X d c 1 ∗ theirs (F := F) d c 1) ∗ emp
        ∗ (xBoth X d c ∗ rows oM d (keep d c 1) (sz c 1) (psum X 1 d) ∗ spent (F := F) d c 0 ∗ across (F := F) d c 2 ∗ theirs (F := F) d c 0))
      ⊢ iprop(anyRows oM d (give d c 2) (sz c 2) ∗ (rows oM d (give d c 2) (sz c 2) (psum X 2 d) -∗ Ready (F := F) d c 2
        ∗ rows oM d (give d c 2) (sz c 2) (psum X 2 d) ∗ across (F := F) d c 2
        ∗ (xBoth X d c ∗ rows oM d (keep d c 2) (sz c 2) (psum X 1 d) ∗ landed X d c 1 ∗ spent (F := F) d c 0 ∗ theirs (F := F) d c 0 ∗ theirs (F := F) d c 1)))
    iintro ⟨HR, ⟨HL, E1⟩, -, HX, HK, H0, A2, E0⟩
    ihave HK := hs $$ HK
    icases HK with ⟨B1, B2⟩
    isplitl [B2]; · (iapply ha; iexact B2)
    iintro B2
    isplitl [HR]; · iexact HR
    isplitl [B2]; · iexact B2
    isplitl [A2]; · iexact A2
    isplitl [HX]; · iexact HX
    isplitl [B1]; · iexact B1
    isplitl [HL]; · iexact HL
    isplitl [H0]; · iexact H0
    isplitl [E0]; · iexact E0
    iexact E1

/-- After the second receipt: the half kept. -/
def lazyO : Piece X d c where
  k := 1
  old := .mid 2
  new := .sent 2
  lo := keep d c 2
  n := sz c 2
  m := oM
  le := (keep_inside d c).2.1
  ge := (keep_inside d c).2.2
  lo' := keep d c 2
  n' := sz c 2
  le' := le_rfl
  ge' := le_rfl
  own := by
    show iprop(Flying (F := F) d c 2 ∗ (xBoth X d c ∗ kept d c 2 (psum X 1 d) ∗ landed X d c 1 ∗ spent (F := F) d c 0 ∗ theirs (F := F) d c 0 ∗ theirs (F := F) d c 1))
      ⊢ iprop(kept d c 2 (psum X 1 d) ∗ (kept d c 2 (psum X 1 d) -∗ Flying (F := F) d c 2
        ∗ (xBoth X d c ∗ kept d c 2 (psum X 1 d) ∗ landed X d c 1 ∗ spent (F := F) d c 0 ∗ theirs (F := F) d c 0 ∗ theirs (F := F) d c 1)))
    iintro ⟨HF, HX, HK, HM⟩
    isplitl [HK]; · iexact HK
    iintro HK
    isplitl [HF]; · iexact HF
    isplitl [HX]; · iexact HX
    isplitl [HK]; · iexact HK
    iexact HM
  arrived := by
    show iprop(Flying (F := F) d c 2 ∗ (xBoth X d c ∗ kept d c 2 (psum X 1 d) ∗ landed X d c 1 ∗ spent (F := F) d c 0 ∗ theirs (F := F) d c 0 ∗ theirs (F := F) d c 1))
      ⊢ iprop(landed X d c 1 ∗ (landed X d c 1 -∗ Flying (F := F) d c 2
        ∗ (xBoth X d c ∗ kept d c 2 (psum X 1 d) ∗ landed X d c 1 ∗ spent (F := F) d c 0 ∗ theirs (F := F) d c 0 ∗ theirs (F := F) d c 1)))
    iintro ⟨HF, HX, HK, HL, HM⟩
    isplitl [HL]; · iexact HL
    iintro HL
    isplitl [HF]; · iexact HF
    isplitl [HX]; · iexact HX
    isplitl [HK]; · iexact HK
    isplitl [HL]; · iexact HL
    iexact HM
  put := by
    have hl : landed X d c 1 ⊢ spent (F := F) d c 1 := rows_any sM d _ _ _
    have ha := rows_any oM d (keep d c 2) (sz c 2) (psum X 1 d)
    show iprop(Flying (F := F) d c 2 ∗ (xBoth X d c ∗ rows oM d (keep d c 2) (sz c 2) (psum X 1 d) ∗ landed X d c 1 ∗ spent (F := F) d c 0 ∗ theirs (F := F) d c 0 ∗ theirs (F := F) d c 1))
      ⊢ iprop(anyRows oM d (keep d c 2) (sz c 2) ∗ (rows oM d (keep d c 2) (sz c 2) (psum X 2 d) -∗ Flying (F := F) d c 2
        ∗ (xBoth X d c ∗ rows oM d (keep d c 2) (sz c 2) (psum X 2 d) ∗ spent (F := F) d c 0 ∗ spent (F := F) d c 1 ∗ theirs (F := F) d c 0 ∗ theirs (F := F) d c 1)))
    iintro ⟨HF, HX, HK, HL, H0, HM⟩
    isplitl [HK]; · (iapply ha; iexact HK)
    iintro HK
    isplitl [HF]; · iexact HF
    isplitl [HX]; · iexact HX
    isplitl [HK]; · iexact HK
    isplitl [H0]; · iexact H0
    isplitl [HL]; · (iapply hl; iexact HL)
    iexact HM

/-- After the third receipt: all the rows kept, which hold the result from then on. -/
def whole : Piece X d c where
  k := 2
  old := .got 2
  new := .ready 3
  lo := keep d c 2
  n := sz c 2
  m := oM
  le := le_rfl
  ge := le_rfl
  lo' := keep d c 2
  n' := sz c 2
  le' := le_rfl
  ge' := le_rfl
  own := by
    show iprop(Ready (F := F) d c 3 ∗ (landed X d c 2 ∗ theirs (F := F) d c 2) ∗ emp ∗ (xBoth X d c ∗ kept d c 2 (psum X 2 d) ∗ spent (F := F) d c 0 ∗ spent (F := F) d c 1 ∗ theirs (F := F) d c 0 ∗ theirs (F := F) d c 1))
      ⊢ iprop(kept d c 2 (psum X 2 d) ∗ (kept d c 2 (psum X 2 d) -∗ Ready (F := F) d c 3 ∗ (landed X d c 2 ∗ theirs (F := F) d c 2) ∗ emp
        ∗ (xBoth X d c ∗ kept d c 2 (psum X 2 d) ∗ spent (F := F) d c 0 ∗ spent (F := F) d c 1 ∗ theirs (F := F) d c 0 ∗ theirs (F := F) d c 1)))
    iintro ⟨HR, HL, -, HX, HK, HM⟩
    isplitl [HK]; · iexact HK
    iintro HK
    isplitl [HR]; · iexact HR
    isplitl [HL]; · iexact HL
    isplitr; · iempintro
    isplitl [HX]; · iexact HX
    isplitl [HK]; · iexact HK
    iexact HM
  arrived := by
    show iprop(Ready (F := F) d c 3 ∗ (landed X d c 2 ∗ theirs (F := F) d c 2) ∗ emp ∗ sentM X d c 2)
      ⊢ iprop(landed X d c 2 ∗ (landed X d c 2 -∗ Ready (F := F) d c 3 ∗ (landed X d c 2 ∗ theirs (F := F) d c 2) ∗ emp ∗ sentM X d c 2))
    iintro ⟨HR, ⟨HL, HE⟩, HM⟩
    isplitl [HL]; · iexact HL
    iintro HL
    isplitl [HR]; · iexact HR
    isplitl [HL HE]
    · isplitl [HL]; · iexact HL
      iexact HE
    iexact HM
  put := by
    have hl : landed X d c 2 ⊢ spent (F := F) d c 2 := rows_any sM d _ _ _
    have ha := rows_any oM d (keep d c 2) (sz c 2) (psum X 2 d)
    have ht : rows oM d (keep d c 2) (sz c 2) (psum X 3 d) ⊢ rows oM d (keep d c 2) (sz c 2) (total X) :=
      rows_congr oM d fun i j h h' => psum_total X h h' j
    show iprop(Ready (F := F) d c 3 ∗ (landed X d c 2 ∗ theirs (F := F) d c 2) ∗ emp
        ∗ (xBoth X d c ∗ rows oM d (keep d c 2) (sz c 2) (psum X 2 d) ∗ spent (F := F) d c 0 ∗ spent (F := F) d c 1 ∗ theirs (F := F) d c 0 ∗ theirs (F := F) d c 1))
      ⊢ iprop(anyRows oM d (keep d c 2) (sz c 2) ∗ (rows oM d (keep d c 2) (sz c 2) (psum X 3 d) -∗ Ready (F := F) d c 3
        ∗ rows oM d (keep d c 2) (sz c 2) (total X) ∗ theirs (F := F) d c 2
        ∗ (xBoth X d c ∗ spent (F := F) d c 0 ∗ spent (F := F) d c 1 ∗ spent (F := F) d c 2 ∗ theirs (F := F) d c 0 ∗ theirs (F := F) d c 1)))
    iintro ⟨HR, ⟨HL, E2⟩, -, HX, HK, H0, H1, HM⟩
    isplitl [HK]; · (iapply ha; iexact HK)
    iintro HK
    isplitl [HR]; · iexact HR
    isplitl [HK]; · (iapply ht; iexact HK)
    isplitl [E2]; · iexact E2
    isplitl [HX]; · iexact HX
    isplitl [H0]; · iexact H0
    isplitl [H1]; · iexact H1
    isplitl [HL]; · (iapply hl; iexact HL)
    iexact HM

end Kinds

/-! ## The operations of a piece -/

/-- The rows landed of the whole addition start where the landing does. -/
theorem land_whole (d : Dev nD) (c : Fin 6) : ![land c 2, 0] = ![land c 2 + (keep d c 2 - keep d c 2), 0] := by
  rw [Nat.sub_self, Nat.add_zero]

section Rules
variable (X : Dev nD → Tab F) (K : Dev nD × Fin 43 → ℕ) (c : Fin 6) {d : Dev nD} {i n R : ℕ} {off : Fin 2 → ℕ}
  {inb : ∀ a, off a + (![n, 1024] : Fin 2 → ℕ) a ≤ (RowsS R).size a} {inb' : ∀ a, off a + (![n, 1024] : Fin 2 → ℕ) a ≤ (RowsS 2048).size a}

/-- A load of rows that can be borrowed. -/
theorem load_borrowed {ph : Phase} (m : Memref sig .tc .vmem (RowsS R) .f32) {lo lo' n' : ℕ} {w : Tab F}
    (hM : Holds X d c ph ⊢ iprop(rows m d lo' n' w ∗ (rows m d lo' n' w -∗ Holds X d c ph))) (ho : off = ![lo, 0])
    (hlo : lo' ≤ lo) (hn : lo + n ≤ lo' + n') {v : (RowsS n).Idx → Elt F .f32} (hv : rowsOf w lo n = v)
    {hl : m.view.LoadsAt (Rect.unit (s := RowsS R) off ![n, 1024] inb).toLoadRect} {α : Type} {Q : α → sProp 𝕄}
    {k : ((RowsS n).Idx → Elt F .f32) → TcProg F α} :
    iprop(Shared X K ∗ Owing (F := F) d i ∗ Holds X d c ph)
      ⊢ iprop(((Owing (F := F) d i ∗ Holds X d c ph) -∗ Runs d (k v) Q)
          -∗ Runs d (Prog.op (.load m (Rect.unit (s := RowsS R) off ![n, 1024] inb).toLoadRect hl) k) Q) := by
  subst hv
  have hr := load_rows m d ho hlo hn (inb := inb) (w := w) (hl := hl) (Q := Q) (k := k)
  iintro ⟨-, HO, HH⟩ Hk
  ihave HH := hM $$ HH
  icases HH with ⟨HW, HB⟩
  iapply hr $$ HW
  iintro HW
  iapply Hk
  isplitl [HO]; · iexact HO
  iapply HB; iexact HW

/-- The load of the device's own partial sums. -/
theorem read_own (P : Piece X d c) (ho : off = ![P.lo, 0]) (hn : n = P.n := by rfl)
    {hl : P.m.view.LoadsAt (Rect.unit (s := RowsS 2048) off ![n, 1024] inb').toLoadRect} {α : Type} {Q : α → sProp 𝕄}
    {k : ((RowsS n).Idx → Elt F .f32) → TcProg F α} :
    iprop(Shared X K ∗ Owing (F := F) d i ∗ Holds X d c P.old)
      ⊢ iprop(((Owing (F := F) d i ∗ Holds X d c P.old) -∗ Runs d (k (rowsOf (psum X P.k.val d) P.lo n)) Q)
          -∗ Runs d (Prog.op (.load P.m (Rect.unit (s := RowsS 2048) off ![n, 1024] inb').toLoadRect hl) k) Q) :=
  load_borrowed X K c P.m P.own ho P.le' (hn ▸ P.ge') rfl

/-- The load of the other device's, where they landed. -/
theorem read_arrived (P : Piece X d c) {inb : ∀ a, off a + (![n, 1024] : Fin 2 → ℕ) a ≤ (RowsS 1792).size a}
    (ho : off = ![land c P.k + (P.lo - keep d c P.k), 0]) (hn : n = P.n := by rfl)
    {hl : sM.view.LoadsAt (Rect.unit (s := RowsS 1792) off ![n, 1024] inb).toLoadRect} {α : Type} {Q : α → sProp 𝕄}
    {k : ((RowsS n).Idx → Elt F .f32) → TcProg F α} :
    iprop(Shared X K ∗ Owing (F := F) d i ∗ Holds X d c P.old)
      ⊢ iprop(((Owing (F := F) d i ∗ Holds X d c P.old) -∗ Runs d (k (rowsOf (psum X P.k.val (peer d c P.k)) P.lo n)) Q)
          -∗ Runs d (Prog.op (.load sM (Rect.unit (s := RowsS 1792) off ![n, 1024] inb).toLoadRect hl) k) Q) := by
  have := P.le
  have := P.ge
  refine load_borrowed X K c sM P.arrived ho (Nat.le_add_right _ _) (by omega) ?_
  rw [rowsOf_shift]
  congr 1
  omega

/-- A sum with its first operand cast to the shape it has. -/
theorem addf_cast {n : ℕ} (v w : (RowsS n).Idx → F .f32) (h : (RowsS n).ShapeCasts (RowsS n)) :
    addf (F := F) (φ := .f32) (shapeCast (RowsS n) v h) w = addf v w := by rw [shapeCast_self]

/-- The store of the sum, the rows of the result it goes to loaded first. -/
theorem write_sum (P : Piece X d c) (ho : off = ![P.lo, 0]) {v : (RowsS n).Idx → Elt F .f32}
    (hv : v = addf (F := F) (φ := .f32) (rowsOf (psum X P.k.val d) P.lo n) (rowsOf (psum X P.k.val (peer d c P.k)) P.lo n))
    (hn : n = P.n := by rfl)
    {hl : oM.view.LoadsAt (Rect.unit (s := RowsS 2048) off ![n, 1024] inb').toLoadRect}
    {hx : (oM.access (Rect.unit (s := RowsS 2048) off ![n, 1024] inb')).Stores Finset.univ}
    {hm : (Finset.univ : Finset (RowsS n).Idx) = Finset.univ ∨ ∀ a, (Rect.unit (s := RowsS 2048) off ![n, 1024] inb').stride a = 1}
    {α : Type} {Q : α → sProp 𝕄} {k : PUnit → TcProg F α} :
    iprop(Shared X K ∗ Owing (F := F) d i ∗ Holds X d c P.old)
      ⊢ iprop(((Owing (F := F) d i ∗ Holds X d c P.new) -∗ Runs d (k ⟨⟩) Q)
          -∗ Runs d (Prog.op (.load oM (Rect.unit (s := RowsS 2048) off ![n, 1024] inb').toLoadRect hl) fun _ =>
              Prog.op (.store oM (Rect.unit (s := RowsS 2048) off ![n, 1024] inb') v Finset.univ hx hm) k) Q) := by
  subst hn
  have hk : Fin.ofNat 3 P.k.val = P.k := Fin.ext (Nat.mod_eq_of_lt P.k.isLt)
  have hc : ∀ i, P.lo ≤ i → i < P.lo + P.n → chainOf i = c := fun i h h' => by
    have := P.le
    have := P.ge
    exact chainOf_keep (d := d) (k := P.k) (by omega) (by omega)
  have hsum := rowsOf_psum_succ X (k := P.k.val) d hc
  rw [hk] at hsum
  have hl' := load_any oM d ho (inb := inb') (hl := hl) (Q := Q)
    (k := fun _ => Prog.op (.store oM (Rect.unit (s := RowsS 2048) off ![P.n, 1024] inb') v Finset.univ hx hm) k)
  have hs' := store_rows oM d ho (inb := inb') (hx := hx) (hm := hm) (Q := Q) (k := k) (hv.trans hsum)
  have hput := P.put
  iintro ⟨-, HO, HH⟩ Hk
  ihave HH := hput $$ HH
  icases HH with ⟨HW, HB⟩
  iapply hl' $$ HW
  iintro %_ HW
  iapply hs' $$ HW
  iintro HW
  iapply Hk
  isplitl [HO]; · iexact HO
  iapply HB; iexact HW

end Rules

end Cert.AllReduce

end
-- ==== Proof.First.lean ====
/-
The kernel's parts from the first transfers to the last chain's first receipt. Each theorem runs one part from the
phases of the six chains before it to the phases after it; a part is a stretch of the printed text and begins and ends
where the printing cut it.
-/
module

public import proofs.«01_k».proof.Proof.Pieces

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Tab F) (K : Dev nD × Fin 43 → ℕ) {d : Dev nD} {h0 : xM.IsWhole} {h1 : oM.IsWhole} {h2 : sM.IsWhole} {α : Type}

/-- Part 2: chain 0 sends at stage 0; chain 2 sends at stage 0; chain 4 sends at stage 0. -/
theorem part2 {v2 v5 v7 v8 : BitVec 32} {Q : α → sProp 𝕄} {k : (Σ' (_ : BitVec 32) (_ : BitVec 32) (_ : BitVec 32), BitVec 32) → TcProg F α}
    (h : ∀ r, At X K d 3 ![.sent 0, .ready 0, .sent 0, .ready 0, .sent 0, .ready 0] ⊢ Runs d (k r) Q) :
    At X K d 0 (fun _ => .ready 0) ⊢ Runs d (k0_part2 xM h0 oM h1 sM h2 cc0_scratch1 cc0_scratch2 d v2 v5 v7 v8 >>= k) Q := by
  rw [k0_part2_eq_skeleton]; unfold k0_part2_skel
  simp only [Prog.lift, Prog.bind_op, Prog.bind_ret, Prog.pure_eq_ret]
  refine step X K 0 (send0 X K 0 (n := 192) (dev4_eq d) (off1_eq d)) ?_
  refine step X K 2 (send0 X K 2 (n := 192) (dev5_eq d) (off2_eq d)) ?_
  refine step X K 4 (send0 X K 4 (n := 160) (dev6_eq d) (off3_1408_2_eq d)) ?_
  exact h _

/-- Part 3: chain 1 sends at stage 0; chain 3 sends at stage 0. -/
theorem part3 {v2 v5 v7 v55 c160_i32_40 : BitVec 32} {Q : α → sProp 𝕄} {k : (Σ' (_ : BitVec 32) (_ : BitVec 32), BitVec 32) → TcProg F α}
    (h : ∀ r, At X K d 5 ![.sent 0, .sent 0, .sent 0, .sent 0, .sent 0, .ready 0] ⊢ Runs d (k r) Q) :
    At X K d 3 ![.sent 0, .ready 0, .sent 0, .ready 0, .sent 0, .ready 0] ⊢ Runs d (k0_part3 xM h0 oM h1 sM h2 cc0_scratch1 cc0_scratch2 d v2 v5 v7 v55 c160_i32_40 >>= k) Q := by
  rw [k0_part3_eq_skeleton]; unfold k0_part3_skel
  simp only [Prog.lift, Prog.bind_op, Prog.bind_ret, Prog.pure_eq_ret]
  refine step X K 1 (send0 X K 1 (n := 160) (dev7_eq d) (off4_eq d)) ?_
  refine step X K 3 (send0 X K 3 (n := 160) (dev8_eq d) (off3_1088_1_eq d)) ?_
  exact h _

/-- Part 4: chain 5 sends at stage 0; chain 0 waits for both transfers, adds a piece. -/
theorem part4 {v5 v8 v22 : BitVec 32} {Q : α → sProp 𝕄} {k : (Σ' (_ : BitVec 32), BitVec 32) → TcProg F α}
    (h : ∀ r, At X K d 6 ![.ready 1, .sent 0, .sent 0, .sent 0, .sent 0, .sent 0] ⊢ Runs d (k r) Q) :
    At X K d 5 ![.sent 0, .sent 0, .sent 0, .sent 0, .sent 0, .ready 0] ⊢ Runs d (k0_part4 xM h0 oM h1 sM h2 cc0_scratch1 cc0_scratch2 d v5 v8 v22 >>= k) Q := by
  rw [k0_part4_eq_skeleton]; unfold k0_part4_skel
  simp only [Prog.lift, Prog.bind_op, Prog.bind_ret, Prog.pure_eq_ret]
  refine step X K 5 (send0 X K 5 (n := 160) (dev9_eq d) (off3_1728_2_eq d)) ?_
  refine step X K 0 (await_own X K 0 0 (n := 192) credit_x) ?_
  refine step X K 0 (await_other X K 0 0 (n := 192) credit_s) ?_
  refine step X K 0 (read_own X K 0 (firstX X d 0) (n := 96) (off5_eq d)) ?_
  refine step X K 0 (read_arrived X K 0 (firstX X d 0) (n := 96) (off6_0_1_eq d)) ?_
  refine step X K 0 (write_sum X K 0 (firstX X d 0) (n := 96) (off5_eq d) (addf_cast _ _ _)) ?_
  exact h _

/-- Part 5: chain 0 sends at stage 1, adds a piece; chain 2 waits for its own transfer. -/
theorem part5 {v2 v5 v34 v102 v116 : BitVec 32} {Q : α → sProp 𝕄} {k : (BitVec 32) → TcProg F α}
    (h : ∀ r, At X K d 7 ![.sent 1, .sent 0, .back 0, .sent 0, .sent 0, .sent 0] ⊢ Runs d (k r) Q) :
    At X K d 6 ![.ready 1, .sent 0, .sent 0, .sent 0, .sent 0, .sent 0] ⊢ Runs d (k0_part5 xM h0 oM h1 sM h2 cc0_scratch1 cc0_scratch2 d v2 v5 v34 v102 v116 >>= k) Q := by
  rw [k0_part5_eq_skeleton]; unfold k0_part5_skel
  simp only [Prog.lift, Prog.bind_op, Prog.bind_ret, Prog.pure_eq_ret]
  refine step X K 0 (send12 X K 0 1 (.inl rfl) (n := 96) (dev10_eq d) (off7_eq d)) ?_
  refine step X K 0 (read_own X K 0 (lazyX X d 0) (n := 96) (off8_eq d)) ?_
  refine step X K 0 (read_arrived X K 0 (lazyX X d 0) (n := 96) (off9_0_1_eq d)) ?_
  refine step X K 0 (write_sum X K 0 (lazyX X d 0) (n := 96) (off8_eq d) (addf_cast _ _ _)) ?_
  refine step X K 2 (await_own X K 2 0 (n := 192) credit_x) ?_
  exact h _

/-- Part 6: chain 2 waits for the other, adds a piece, sends at stage 1, loads its rows. -/
theorem part6 {v2 v5 v7 : BitVec 32} {Q : α → sProp 𝕄} {k : (Σ' (_ : BitVec 32) (_ : BitVec 32) (_ : BitVec 32) (_ : FVec F S96x1024 .f32), BitVec 32) → TcProg F α}
    (h : ∀ a b c e, At X K d 8 ![.sent 1, .sent 0, .mid 1, .sent 0, .sent 0, .sent 0] ⊢ Runs d (k ⟨a, b, c, k0_pay4 (rowsOf (psum X 0 d) (keep d 2 1) 96), e⟩) Q) :
    At X K d 7 ![.sent 1, .sent 0, .back 0, .sent 0, .sent 0, .sent 0] ⊢ Runs d (k0_part6 xM h0 oM h1 sM h2 cc0_scratch1 cc0_scratch2 d v2 v5 v7 >>= k) Q := by
  rw [k0_part6_eq_skeleton]; unfold k0_part6_skel
  simp only [Prog.lift, Prog.bind_op, Prog.bind_ret, Prog.pure_eq_ret]
  refine step X K 2 (await_other X K 2 0 (n := 192) credit_s) ?_
  refine step X K 2 (read_own X K 2 (firstX X d 2) (n := 96) (off10_eq d)) ?_
  refine step X K 2 (read_arrived X K 2 (firstX X d 2) (n := 96) (off6_616_2_eq d)) ?_
  refine step X K 2 (write_sum X K 2 (firstX X d 2) (n := 96) (off10_eq d) (addf_cast _ _ _)) ?_
  refine step X K 2 (send12 X K 2 1 (.inl rfl) (n := 96) (dev11_eq d) (off11_eq d)) ?_
  refine step X K 2 (read_own X K 2 (lazyX X d 2) (n := 96) (off12_eq d)) ?_
  exact h _ _ _ _

/-- Part 7: chain 2 stores a sum; chain 4 waits for both transfers, adds a piece. -/
theorem part7 {v7 v8 v46 v151 v177 v182 : BitVec 32} {Q : α → sProp 𝕄} {k : (Σ' (_ : BitVec 32), BitVec 32) → TcProg F α}
    (h : ∀ r, At X K d 8 ![.sent 1, .sent 0, .sent 1, .sent 0, .ready 1, .sent 0] ⊢ Runs d (k r) Q) :
    At X K d 8 ![.sent 1, .sent 0, .mid 1, .sent 0, .sent 0, .sent 0] ⊢ Runs d (k0_part7 xM h0 oM h1 sM h2 cc0_scratch1 cc0_scratch2 d v7 v8 v46 v151 v177 (k0_pay4 (rowsOf (psum X 0 d) (keep d 2 1) 96)) v182 >>= k) Q := by
  rw [k0_part7_eq_skeleton]; unfold k0_part7_skel
  simp only [Prog.lift, Prog.bind_op, Prog.bind_ret, Prog.pure_eq_ret]
  refine step X K 2 (read_arrived X K 2 (lazyX X d 2) (n := 96) (off9_616_2_eq d)) ?_
  refine step X K 2 (write_sum X K 2 (lazyX X d 2) (n := 96) (off12_eq d) (addf_cast _ _ _)) ?_
  refine step X K 4 (await_own X K 4 0 (n := 160) credit_x) ?_
  refine step X K 4 (await_other X K 4 0 (n := 160) credit_s) ?_
  refine step X K 4 (read_own X K 4 (firstX X d 4) (n := 80) (off13_1408_eq d)) ?_
  refine step X K 4 (read_arrived X K 4 (firstX X d 4) (n := 80) (off14_1232_eq d)) ?_
  refine step X K 4 (write_sum X K 4 (firstX X d 4) (n := 80) (off13_1408_eq d) (addf_cast _ _ _)) ?_
  exact h _

/-- Part 8: chain 4 sends at stage 1, adds a piece; chain 1 waits for its own transfer. -/
theorem part8 {v2 v8 v58 v200 v214 : BitVec 32} {Q : α → sProp 𝕄} {k : (BitVec 32) → TcProg F α}
    (h : ∀ r, At X K d 9 ![.sent 1, .back 0, .sent 1, .sent 0, .sent 1, .sent 0] ⊢ Runs d (k r) Q) :
    At X K d 8 ![.sent 1, .sent 0, .sent 1, .sent 0, .ready 1, .sent 0] ⊢ Runs d (k0_part8 xM h0 oM h1 sM h2 cc0_scratch1 cc0_scratch2 d v2 v8 v58 v200 v214 >>= k) Q := by
  rw [k0_part8_eq_skeleton]; unfold k0_part8_skel
  simp only [Prog.lift, Prog.bind_op, Prog.bind_ret, Prog.pure_eq_ret]
  refine step X K 4 (send12 X K 4 1 (.inl rfl) (n := 80) (dev12_eq d) (off15_1408_eq d)) ?_
  refine step X K 4 (read_own X K 4 (lazyX X d 4) (n := 80) (off16_1408_eq d)) ?_
  refine step X K 4 (read_arrived X K 4 (lazyX X d 4) (n := 80) (off17_1232_eq d)) ?_
  refine step X K 4 (write_sum X K 4 (lazyX X d 4) (n := 80) (off16_1408_eq d) (addf_cast _ _ _)) ?_
  refine step X K 1 (await_own X K 1 0 (n := 160) credit_x) ?_
  exact h _

/-- Part 9: chain 1 waits for the other, adds a piece, sends at stage 1, loads its rows. -/
theorem part9 {v2 v5 v8 : BitVec 32} {Q : α → sProp 𝕄} {k : (Σ' (_ : BitVec 32) (_ : BitVec 32) (_ : BitVec 32) (_ : FVec F S80x1024 .f32), BitVec 32) → TcProg F α}
    (h : ∀ a b c e, At X K d 10 ![.sent 1, .mid 1, .sent 1, .sent 0, .sent 1, .sent 0] ⊢ Runs d (k ⟨a, b, c, k0_pay9 (rowsOf (psum X 0 d) (keep d 1 1) 80), e⟩) Q) :
    At X K d 9 ![.sent 1, .back 0, .sent 1, .sent 0, .sent 1, .sent 0] ⊢ Runs d (k0_part9 xM h0 oM h1 sM h2 cc0_scratch1 cc0_scratch2 d v2 v5 v8 >>= k) Q := by
  rw [k0_part9_eq_skeleton]; unfold k0_part9_skel
  simp only [Prog.lift, Prog.bind_op, Prog.bind_ret, Prog.pure_eq_ret]
  refine step X K 1 (await_other X K 1 0 (n := 160) credit_s) ?_
  refine step X K 1 (read_own X K 1 (firstX X d 1) (n := 80) (off18_eq d)) ?_
  refine step X K 1 (read_arrived X K 1 (firstX X d 1) (n := 80) (off19_336_1_eq d)) ?_
  refine step X K 1 (write_sum X K 1 (firstX X d 1) (n := 80) (off18_eq d) (addf_cast _ _ _)) ?_
  refine step X K 1 (send12 X K 1 1 (.inl rfl) (n := 80) (dev13_eq d) (off20_eq d)) ?_
  refine step X K 1 (read_own X K 1 (lazyX X d 1) (n := 80) (off21_eq d)) ?_
  exact h _ _ _ _

/-- Part 10: chain 1 stores a sum; chain 3 waits for both transfers, adds a piece. -/
theorem part10 {v5 v7 v70 v249 v275 v280 : BitVec 32} {Q : α → sProp 𝕄} {k : (Σ' (_ : BitVec 32), BitVec 32) → TcProg F α}
    (h : ∀ r, At X K d 10 ![.sent 1, .sent 1, .sent 1, .ready 1, .sent 1, .sent 0] ⊢ Runs d (k r) Q) :
    At X K d 10 ![.sent 1, .mid 1, .sent 1, .sent 0, .sent 1, .sent 0] ⊢ Runs d (k0_part10 xM h0 oM h1 sM h2 cc0_scratch1 cc0_scratch2 d v5 v7 v70 v249 v275 (k0_pay9 (rowsOf (psum X 0 d) (keep d 1 1) 80)) v280 >>= k) Q := by
  rw [k0_part10_eq_skeleton]; unfold k0_part10_skel
  simp only [Prog.lift, Prog.bind_op, Prog.bind_ret, Prog.pure_eq_ret]
  refine step X K 1 (read_arrived X K 1 (lazyX X d 1) (n := 80) (off22_336_1_eq d)) ?_
  refine step X K 1 (write_sum X K 1 (lazyX X d 1) (n := 80) (off21_eq d) (addf_cast _ _ _)) ?_
  refine step X K 3 (await_own X K 3 0 (n := 160) credit_x) ?_
  refine step X K 3 (await_other X K 3 0 (n := 160) credit_s) ?_
  refine step X K 3 (read_own X K 3 (firstX X d 3) (n := 80) (off23_eq d)) ?_
  refine step X K 3 (read_arrived X K 3 (firstX X d 3) (n := 80) (off19_952_2_eq d)) ?_
  refine step X K 3 (write_sum X K 3 (firstX X d 3) (n := 80) (off23_eq d) (addf_cast _ _ _)) ?_
  exact h _

/-- Part 11: chain 3 sends at stage 1, adds a piece; chain 5 waits for its own transfer. -/
theorem part11 {v2 v7 v82 v298 v312 : BitVec 32} {Q : α → sProp 𝕄} {k : (BitVec 32) → TcProg F α}
    (h : ∀ r, At X K d 11 ![.sent 1, .sent 1, .sent 1, .sent 1, .sent 1, .back 0] ⊢ Runs d (k r) Q) :
    At X K d 10 ![.sent 1, .sent 1, .sent 1, .ready 1, .sent 1, .sent 0] ⊢ Runs d (k0_part11 xM h0 oM h1 sM h2 cc0_scratch1 cc0_scratch2 d v2 v7 v82 v298 v312 >>= k) Q := by
  rw [k0_part11_eq_skeleton]; unfold k0_part11_skel
  simp only [Prog.lift, Prog.bind_op, Prog.bind_ret, Prog.pure_eq_ret]
  refine step X K 3 (send12 X K 3 1 (.inl rfl) (n := 80) (dev14_eq d) (off24_eq d)) ?_
  refine step X K 3 (read_own X K 3 (lazyX X d 3) (n := 80) (off25_eq d)) ?_
  refine step X K 3 (read_arrived X K 3 (lazyX X d 3) (n := 80) (off22_952_2_eq d)) ?_
  refine step X K 3 (write_sum X K 3 (lazyX X d 3) (n := 80) (off25_eq d) (addf_cast _ _ _)) ?_
  refine step X K 5 (await_own X K 5 0 (n := 160) credit_x) ?_
  exact h _

/-- Part 12: chain 5 waits for the other, adds a piece, sends at stage 1, loads its rows. -/
theorem part12 {v2 v7 v8 : BitVec 32} {Q : α → sProp 𝕄} {k : (Σ' (_ : BitVec 32) (_ : BitVec 32) (_ : BitVec 32) (_ : FVec F S80x1024 .f32), BitVec 32) → TcProg F α}
    (h : ∀ a b c e, At X K d 12 ![.sent 1, .sent 1, .sent 1, .sent 1, .sent 1, .mid 1] ⊢ Runs d (k ⟨a, b, c, k0_pay14 (rowsOf (psum X 0 d) (keep d 5 1) 80), e⟩) Q) :
    At X K d 11 ![.sent 1, .sent 1, .sent 1, .sent 1, .sent 1, .back 0] ⊢ Runs d (k0_part12 xM h0 oM h1 sM h2 cc0_scratch1 cc0_scratch2 d v2 v7 v8 >>= k) Q := by
  rw [k0_part12_eq_skeleton]; unfold k0_part12_skel
  simp only [Prog.lift, Prog.bind_op, Prog.bind_ret, Prog.pure_eq_ret]
  refine step X K 5 (await_other X K 5 0 (n := 160) credit_s) ?_
  refine step X K 5 (read_own X K 5 (firstX X d 5) (n := 80) (off13_1728_eq d)) ?_
  refine step X K 5 (read_arrived X K 5 (firstX X d 5) (n := 80) (off14_1512_eq d)) ?_
  refine step X K 5 (write_sum X K 5 (firstX X d 5) (n := 80) (off13_1728_eq d) (addf_cast _ _ _)) ?_
  refine step X K 5 (send12 X K 5 1 (.inl rfl) (n := 80) (dev15_eq d) (off15_1728_eq d)) ?_
  refine step X K 5 (read_own X K 5 (lazyX X d 5) (n := 80) (off16_1728_eq d)) ?_
  exact h _ _ _ _

end Parts

end Cert.AllReduce

end
-- ==== Proof.Second.lean ====
/-
The kernel's parts through the second receipts, the third transfers, the third receipts and the last additions.
-/
module

public import proofs.«01_k».proof.Proof.Pieces

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Tab F) (K : Dev nD × Fin 43 → ℕ) {d : Dev nD} {h0 : xM.IsWhole} {h1 : oM.IsWhole} {h2 : sM.IsWhole} {α : Type}

/-- Part 13: chain 5 stores a sum; chain 0 waits for both transfers, adds a piece. -/
theorem part13 {v5 v7 v102 v119 v347 v373 v378 : BitVec 32} {Q : α → sProp 𝕄} {k : (Σ' (_ : BitVec 32) (_ : BitVec 32), BitVec 32) → TcProg F α}
    (h : ∀ r, At X K d 12 ![.ready 2, .sent 1, .sent 1, .sent 1, .sent 1, .sent 1] ⊢ Runs d (k r) Q) :
    At X K d 12 ![.sent 1, .sent 1, .sent 1, .sent 1, .sent 1, .mid 1] ⊢ Runs d (k0_part13 xM h0 oM h1 sM h2 cc0_scratch1 cc0_scratch2 d v5 v7 v102 v119 v347 v373 (k0_pay14 (rowsOf (psum X 0 d) (keep d 5 1) 80)) v378 >>= k) Q := by
  rw [k0_part13_eq_skeleton]; unfold k0_part13_skel
  simp only [Prog.lift, Prog.bind_op, Prog.bind_ret, Prog.pure_eq_ret]
  refine step X K 5 (read_arrived X K 5 (lazyX X d 5) (n := 80) (off17_1512_eq d)) ?_
  refine step X K 5 (write_sum X K 5 (lazyX X d 5) (n := 80) (off16_1728_eq d) (addf_cast _ _ _)) ?_
  refine step X K 0 (await_own X K 0 1 (n := 96) credit_o) ?_
  refine step X K 0 (await_other X K 0 1 (n := 96) credit_s) ?_
  refine step X K 0 (read_own X K 0 (firstO X d 0) (n := 48) (off26_eq d)) ?_
  refine step X K 0 (read_arrived X K 0 (firstO X d 0) (n := 48) (off27_eq d)) ?_
  refine step X K 0 (write_sum X K 0 (firstO X d 0) (n := 48) (off26_eq d) (addf_cast _ _ _)) ?_
  exact h _

/-- Part 14: chain 0 sends at stage 2, adds a piece; chain 2 waits for its own transfer. -/
theorem part14 {v2 v7 v168 v396 v410 c48_i32_285 : BitVec 32} {Q : α → sProp 𝕄} {k : (BitVec 32) → TcProg F α}
    (h : ∀ r, At X K d 13 ![.sent 2, .sent 1, .back 1, .sent 1, .sent 1, .sent 1] ⊢ Runs d (k r) Q) :
    At X K d 12 ![.ready 2, .sent 1, .sent 1, .sent 1, .sent 1, .sent 1] ⊢ Runs d (k0_part14 xM h0 oM h1 sM h2 cc0_scratch1 cc0_scratch2 d v2 v7 v168 v396 v410 c48_i32_285 >>= k) Q := by
  rw [k0_part14_eq_skeleton]; unfold k0_part14_skel
  simp only [Prog.lift, Prog.bind_op, Prog.bind_ret, Prog.pure_eq_ret]
  refine step X K 0 (send12 X K 0 2 (.inr rfl) (n := 48) (dev16_eq d) (off28_eq d)) ?_
  refine step X K 0 (read_own X K 0 (lazyO X d 0) (n := 48) (off29_eq d)) ?_
  refine step X K 0 (read_arrived X K 0 (lazyO X d 0) (n := 48) (off30_eq d)) ?_
  refine step X K 0 (write_sum X K 0 (lazyO X d 0) (n := 48) (off29_eq d) (addf_cast _ _ _)) ?_
  refine step X K 2 (await_own X K 2 1 (n := 96) credit_o) ?_
  exact h _

/-- Part 15: chain 2 waits for the other, adds a piece, sends at stage 2, loads its rows. -/
theorem part15 {v2 v7 v8 v151 : BitVec 32} {Q : α → sProp 𝕄} {k : (Σ' (_ : BitVec 32) (_ : BitVec 32) (_ : BitVec 32), FVec F S48x1024 .f32) → TcProg F α}
    (h : ∀ a b c, At X K d 14 ![.sent 2, .sent 1, .mid 2, .sent 1, .sent 1, .sent 1] ⊢ Runs d (k ⟨a, b, c, k0_pay19 (rowsOf (psum X 1 d) (keep d 2 2) 48)⟩) Q) :
    At X K d 13 ![.sent 2, .sent 1, .back 1, .sent 1, .sent 1, .sent 1] ⊢ Runs d (k0_part15 xM h0 oM h1 sM h2 cc0_scratch1 cc0_scratch2 d v2 v7 v8 v151 >>= k) Q := by
  rw [k0_part15_eq_skeleton]; unfold k0_part15_skel
  simp only [Prog.lift, Prog.bind_op, Prog.bind_ret, Prog.pure_eq_ret]
  refine step X K 2 (await_other X K 2 1 (n := 96) credit_s) ?_
  refine step X K 2 (read_own X K 2 (firstO X d 2) (n := 48) (off31_eq d)) ?_
  refine step X K 2 (read_arrived X K 2 (firstO X d 2) (n := 48) (off32_eq d)) ?_
  refine step X K 2 (write_sum X K 2 (firstO X d 2) (n := 48) (off31_eq d) (addf_cast _ _ _)) ?_
  refine step X K 2 (send12 X K 2 2 (.inr rfl) (n := 48) (dev17_eq d) (off33_eq d)) ?_
  refine step X K 2 (read_own X K 2 (lazyO X d 2) (n := 48) (off34_eq d)) ?_
  exact h _ _ _

/-- Part 16: chain 2 stores a sum; chain 4 waits for both transfers, adds a piece. -/
theorem part16 {v5 v8 v200 v217 v445 v471 : BitVec 32} {Q : α → sProp 𝕄} {k : (BitVec 32) → TcProg F α}
    (h : ∀ r, At X K d 14 ![.sent 2, .sent 1, .sent 2, .sent 1, .ready 2, .sent 1] ⊢ Runs d (k r) Q) :
    At X K d 14 ![.sent 2, .sent 1, .mid 2, .sent 1, .sent 1, .sent 1] ⊢ Runs d (k0_part16 xM h0 oM h1 sM h2 cc0_scratch1 cc0_scratch2 d v5 v8 v200 v217 v445 v471 (k0_pay19 (rowsOf (psum X 1 d) (keep d 2 2) 48)) >>= k) Q := by
  rw [k0_part16_eq_skeleton]; unfold k0_part16_skel
  simp only [Prog.lift, Prog.bind_op, Prog.bind_ret, Prog.pure_eq_ret]
  refine step X K 2 (read_arrived X K 2 (lazyO X d 2) (n := 48) (off35_eq d)) ?_
  refine step X K 2 (write_sum X K 2 (lazyO X d 2) (n := 48) (off34_eq d) (addf_cast _ _ _)) ?_
  refine step X K 4 (await_own X K 4 1 (n := 80) credit_o) ?_
  refine step X K 4 (await_other X K 4 1 (n := 80) credit_s) ?_
  refine step X K 4 (read_own X K 4 (firstO X d 4) (n := 40) (off36_1408_eq d)) ?_
  refine step X K 4 (read_arrived X K 4 (firstO X d 4) (n := 40) (off37_1392_1_eq d)) ?_
  refine step X K 4 (write_sum X K 4 (firstO X d 4) (n := 40) (off36_1408_eq d) (addf_cast _ _ _)) ?_
  exact h _

/-- Part 17: chain 4 sends at stage 2, adds a piece; chain 1 waits for its own transfer. -/
theorem part17 {v2 v5 v266 v494 : BitVec 32} {Q : α → sProp 𝕄} {k : (BitVec 32) → TcProg F α}
    (h : ∀ r, At X K d 15 ![.sent 2, .back 1, .sent 2, .sent 1, .sent 2, .sent 1] ⊢ Runs d (k r) Q) :
    At X K d 14 ![.sent 2, .sent 1, .sent 2, .sent 1, .ready 2, .sent 1] ⊢ Runs d (k0_part17 xM h0 oM h1 sM h2 cc0_scratch1 cc0_scratch2 d v2 v5 v266 v494 >>= k) Q := by
  rw [k0_part17_eq_skeleton]; unfold k0_part17_skel
  simp only [Prog.lift, Prog.bind_op, Prog.bind_ret, Prog.pure_eq_ret]
  refine step X K 4 (send12 X K 4 2 (.inr rfl) (n := 40) (dev18_eq d) (off38_1408_eq d)) ?_
  refine step X K 4 (read_own X K 4 (lazyO X d 4) (n := 40) (off39_1408_eq d)) ?_
  refine step X K 4 (read_arrived X K 4 (lazyO X d 4) (n := 40) (off40_1392_1_eq d)) ?_
  refine step X K 4 (write_sum X K 4 (lazyO X d 4) (n := 40) (off39_1408_eq d) (addf_cast _ _ _)) ?_
  refine step X K 1 (await_own X K 1 1 (n := 80) credit_o) ?_
  exact h _

/-- Part 18: chain 1 waits for the other, adds a piece, sends at stage 2, loads its rows. -/
theorem part18 {v2 v5 v7 v249 : BitVec 32} {Q : α → sProp 𝕄} {k : (Σ' (_ : BitVec 32) (_ : BitVec 32) (_ : BitVec 32), FVec F S40x1024 .f32) → TcProg F α}
    (h : ∀ a b c, At X K d 16 ![.sent 2, .mid 2, .sent 2, .sent 1, .sent 2, .sent 1] ⊢ Runs d (k ⟨a, b, c, k0_pay24 (rowsOf (psum X 1 d) (keep d 1 2) 40) (rowsOf (psum X 1 (peer d 1 1)) (keep d 1 2) 40)⟩) Q) :
    At X K d 15 ![.sent 2, .back 1, .sent 2, .sent 1, .sent 2, .sent 1] ⊢ Runs d (k0_part18 xM h0 oM h1 sM h2 cc0_scratch1 cc0_scratch2 d v2 v5 v7 v249 >>= k) Q := by
  rw [k0_part18_eq_skeleton]; unfold k0_part18_skel
  simp only [Prog.lift, Prog.bind_op, Prog.bind_ret, Prog.pure_eq_ret]
  refine step X K 1 (await_other X K 1 1 (n := 80) credit_s) ?_
  refine step X K 1 (read_own X K 1 (firstO X d 1) (n := 40) (off41_eq d)) ?_
  refine step X K 1 (read_arrived X K 1 (firstO X d 1) (n := 40) (off37_496_2_eq d)) ?_
  refine step X K 1 (write_sum X K 1 (firstO X d 1) (n := 40) (off41_eq d) (addf_cast _ _ _)) ?_
  refine step X K 1 (send12 X K 1 2 (.inr rfl) (n := 40) (dev19_eq d) (off42_eq d)) ?_
  refine step X K 1 (read_own X K 1 (lazyO X d 1) (n := 40) (off43_eq d)) ?_
  refine step X K 1 (read_arrived X K 1 (lazyO X d 1) (n := 40) (off40_496_2_eq d)) ?_
  exact h _ _ _

/-- Part 19: chain 1 stores a sum; chain 3 waits for both transfers, adds a piece. -/
theorem part19 {v2 v7 v8 v298 v315 v543 v569 : BitVec 32} {Q : α → sProp 𝕄} {k : (Σ' (_ : BitVec 32), BitVec 32) → TcProg F α}
    (h : ∀ r, At X K d 16 ![.sent 2, .sent 2, .sent 2, .ready 2, .sent 2, .sent 1] ⊢ Runs d (k r) Q) :
    At X K d 16 ![.sent 2, .mid 2, .sent 2, .sent 1, .sent 2, .sent 1] ⊢ Runs d (k0_part19 xM h0 oM h1 sM h2 cc0_scratch1 cc0_scratch2 d v2 v7 v8 v298 v315 v543 v569 (k0_pay24 (rowsOf (psum X 1 d) (keep d 1 2) 40) (rowsOf (psum X 1 (peer d 1 1)) (keep d 1 2) 40)) >>= k) Q := by
  rw [k0_part19_eq_skeleton]; unfold k0_part19_skel
  simp only [Prog.lift, Prog.bind_op, Prog.bind_ret, Prog.pure_eq_ret]
  refine step X K 1 (write_sum X K 1 (lazyO X d 1) (n := 40) (off43_eq d) (addf_cast _ _ _)) ?_
  refine step X K 3 (await_own X K 3 1 (n := 80) credit_o) ?_
  refine step X K 3 (await_other X K 3 1 (n := 80) credit_s) ?_
  refine step X K 3 (read_own X K 3 (firstO X d 3) (n := 40) (off44_eq d)) ?_
  refine step X K 3 (read_arrived X K 3 (firstO X d 3) (n := 40) (off45_eq d)) ?_
  refine step X K 3 (write_sum X K 3 (firstO X d 3) (n := 40) (off44_eq d) (addf_cast _ _ _)) ?_
  exact h _

/-- Part 20: chain 3 sends at stage 2, adds a piece; chain 5 waits for both transfers. -/
theorem part20 {v8 v364 v592 v609 : BitVec 32} {Q : α → sProp 𝕄} {k : (BitVec 32) → TcProg F α}
    (h : ∀ r, At X K d 17 ![.sent 2, .sent 2, .sent 2, .sent 2, .sent 2, .got 1] ⊢ Runs d (k r) Q) :
    At X K d 16 ![.sent 2, .sent 2, .sent 2, .ready 2, .sent 2, .sent 1] ⊢ Runs d (k0_part20 xM h0 oM h1 sM h2 cc0_scratch1 cc0_scratch2 d v8 v364 v592 v609 >>= k) Q := by
  rw [k0_part20_eq_skeleton]; unfold k0_part20_skel
  simp only [Prog.lift, Prog.bind_op, Prog.bind_ret, Prog.pure_eq_ret]
  refine step X K 3 (send12 X K 3 2 (.inr rfl) (n := 40) (dev20_eq d) (off46_eq d)) ?_
  refine step X K 3 (read_own X K 3 (lazyO X d 3) (n := 40) (off47_eq d)) ?_
  refine step X K 3 (read_arrived X K 3 (lazyO X d 3) (n := 40) (off48_eq d)) ?_
  refine step X K 3 (write_sum X K 3 (lazyO X d 3) (n := 40) (off47_eq d) (addf_cast _ _ _)) ?_
  refine step X K 5 (await_own X K 5 1 (n := 80) credit_o) ?_
  refine step X K 5 (await_other X K 5 1 (n := 80) credit_s) ?_
  exact h _

/-- Part 21: chain 5 adds a piece, sends at stage 2, loads its rows. -/
theorem part21 {v2 v5 v8 v347 c80_i32_443 : BitVec 32} {Q : α → sProp 𝕄} {k : (Σ' (_ : BitVec 32) (_ : BitVec 32), FVec F S40x1024 .f32) → TcProg F α}
    (h : ∀ a b, At X K d 18 ![.sent 2, .sent 2, .sent 2, .sent 2, .sent 2, .mid 2] ⊢ Runs d (k ⟨a, b, k0_pay28 (rowsOf (psum X 1 d) (keep d 5 2) 40) (rowsOf (psum X 1 (peer d 5 1)) (keep d 5 2) 40)⟩) Q) :
    At X K d 17 ![.sent 2, .sent 2, .sent 2, .sent 2, .sent 2, .got 1] ⊢ Runs d (k0_part21 xM h0 oM h1 sM h2 cc0_scratch1 cc0_scratch2 d v2 v5 v8 v347 c80_i32_443 >>= k) Q := by
  rw [k0_part21_eq_skeleton]; unfold k0_part21_skel
  simp only [Prog.lift, Prog.bind_op, Prog.bind_ret, Prog.pure_eq_ret]
  refine step X K 5 (read_own X K 5 (firstO X d 5) (n := 40) (off36_1728_eq d)) ?_
  refine step X K 5 (read_arrived X K 5 (firstO X d 5) (n := 40) (off37_1672_1_eq d)) ?_
  refine step X K 5 (write_sum X K 5 (firstO X d 5) (n := 40) (off36_1728_eq d) (addf_cast _ _ _)) ?_
  refine step X K 5 (send12 X K 5 2 (.inr rfl) (n := 40) (dev21_eq d) (off38_1728_eq d)) ?_
  refine step X K 5 (read_own X K 5 (lazyO X d 5) (n := 40) (off39_1728_eq d)) ?_
  refine step X K 5 (read_arrived X K 5 (lazyO X d 5) (n := 40) (off40_1672_1_eq d)) ?_
  exact h _ _

/-- Part 22: chain 5 stores a sum; chain 0 waits for both transfers, adds a piece, sends at stage 3. -/
theorem part22 {v2 v7 v396 v413 : BitVec 32} {Q : α → sProp 𝕄} {k : (Σ' (_ : BitVec 32), BitVec 32) → TcProg F α}
    (h : ∀ r, At X K d 19 ![.sent 3, .sent 2, .sent 2, .sent 2, .sent 2, .sent 2] ⊢ Runs d (k r) Q) :
    At X K d 18 ![.sent 2, .sent 2, .sent 2, .sent 2, .sent 2, .mid 2] ⊢ Runs d (k0_part22 xM h0 oM h1 sM h2 cc0_scratch1 cc0_scratch2 d v2 v7 v396 v413 (k0_pay28 (rowsOf (psum X 1 d) (keep d 5 2) 40) (rowsOf (psum X 1 (peer d 5 1)) (keep d 5 2) 40)) >>= k) Q := by
  rw [k0_part22_eq_skeleton]; unfold k0_part22_skel
  simp only [Prog.lift, Prog.bind_op, Prog.bind_ret, Prog.pure_eq_ret]
  refine step X K 5 (write_sum X K 5 (lazyO X d 5) (n := 40) (off39_1728_eq d) (addf_cast _ _ _)) ?_
  refine step X K 0 (await_own X K 0 2 (n := 48) credit_o) ?_
  refine step X K 0 (await_other X K 0 2 (n := 48) credit_s) ?_
  refine step X K 0 (read_own X K 0 (whole X d 0) (n := 48) (off29_eq d)) ?_
  refine step X K 0 (read_arrived X K 0 (whole X d 0) (n := 48) (land_whole d 0)) ?_
  refine step X K 0 (write_sum X K 0 (whole X d 0) (n := 48) (off29_eq d) (addf_cast _ _ _)) ?_
  refine step X K 0 (send345 X K 0 3 (by decide) (n := 48) (dev22_eq d) (off49_eq d)) ?_
  exact h _

/-- Part 23: chain 2 waits for both transfers, adds a piece, sends at stage 3. -/
theorem part23 {v2 v8 v445 v462 : BitVec 32} {Q : α → sProp 𝕄} {k : (Σ' (_ : BitVec 32), BitVec 32) → TcProg F α}
    (h : ∀ r, At X K d 20 ![.sent 3, .sent 2, .sent 3, .sent 2, .sent 2, .sent 2] ⊢ Runs d (k r) Q) :
    At X K d 19 ![.sent 3, .sent 2, .sent 2, .sent 2, .sent 2, .sent 2] ⊢ Runs d (k0_part23 xM h0 oM h1 sM h2 cc0_scratch1 cc0_scratch2 d v2 v8 v445 v462 >>= k) Q := by
  rw [k0_part23_eq_skeleton]; unfold k0_part23_skel
  simp only [Prog.lift, Prog.bind_op, Prog.bind_ret, Prog.pure_eq_ret]
  refine step X K 2 (await_own X K 2 2 (n := 48) credit_o) ?_
  refine step X K 2 (await_other X K 2 2 (n := 48) credit_s) ?_
  refine step X K 2 (read_own X K 2 (whole X d 2) (n := 48) (off34_eq d)) ?_
  refine step X K 2 (read_arrived X K 2 (whole X d 2) (n := 48) (land_whole d 2)) ?_
  refine step X K 2 (write_sum X K 2 (whole X d 2) (n := 48) (off34_eq d) (addf_cast _ _ _)) ?_
  refine step X K 2 (send345 X K 2 3 (by decide) (n := 48) (dev23_eq d) (off50_eq d)) ?_
  exact h _

/-- Part 24: chain 4 waits for both transfers, adds a piece, sends at stage 3. -/
theorem part24 {v2 v5 v494 v511 : BitVec 32} {Q : α → sProp 𝕄} {k : (Σ' (_ : BitVec 32), BitVec 32) → TcProg F α}
    (h : ∀ r, At X K d 21 ![.sent 3, .sent 2, .sent 3, .sent 2, .sent 3, .sent 2] ⊢ Runs d (k r) Q) :
    At X K d 20 ![.sent 3, .sent 2, .sent 3, .sent 2, .sent 2, .sent 2] ⊢ Runs d (k0_part24 xM h0 oM h1 sM h2 cc0_scratch1 cc0_scratch2 d v2 v5 v494 v511 >>= k) Q := by
  rw [k0_part24_eq_skeleton]; unfold k0_part24_skel
  simp only [Prog.lift, Prog.bind_op, Prog.bind_ret, Prog.pure_eq_ret]
  refine step X K 4 (await_own X K 4 2 (n := 40) credit_o) ?_
  refine step X K 4 (await_other X K 4 2 (n := 40) credit_s) ?_
  refine step X K 4 (read_own X K 4 (whole X d 4) (n := 40) (off39_1408_eq d)) ?_
  refine step X K 4 (read_arrived X K 4 (whole X d 4) (n := 40) (land_whole d 4)) ?_
  refine step X K 4 (write_sum X K 4 (whole X d 4) (n := 40) (off39_1408_eq d) (addf_cast _ _ _)) ?_
  refine step X K 4 (send345 X K 4 3 (by decide) (n := 40) (dev24_eq d) (off51_1408_eq d)) ?_
  exact h _

/-- Part 25: chain 1 waits for both transfers, adds a piece, sends at stage 3. -/
theorem part25 {v2 v7 v543 v560 : BitVec 32} {Q : α → sProp 𝕄} {k : (Σ' (_ : BitVec 32), BitVec 32) → TcProg F α}
    (h : ∀ r, At X K d 22 ![.sent 3, .sent 3, .sent 3, .sent 2, .sent 3, .sent 2] ⊢ Runs d (k r) Q) :
    At X K d 21 ![.sent 3, .sent 2, .sent 3, .sent 2, .sent 3, .sent 2] ⊢ Runs d (k0_part25 xM h0 oM h1 sM h2 cc0_scratch1 cc0_scratch2 d v2 v7 v543 v560 >>= k) Q := by
  rw [k0_part25_eq_skeleton]; unfold k0_part25_skel
  simp only [Prog.lift, Prog.bind_op, Prog.bind_ret, Prog.pure_eq_ret]
  refine step X K 1 (await_own X K 1 2 (n := 40) credit_o) ?_
  refine step X K 1 (await_other X K 1 2 (n := 40) credit_s) ?_
  refine step X K 1 (read_own X K 1 (whole X d 1) (n := 40) (off43_eq d)) ?_
  refine step X K 1 (read_arrived X K 1 (whole X d 1) (n := 40) (land_whole d 1)) ?_
  refine step X K 1 (write_sum X K 1 (whole X d 1) (n := 40) (off43_eq d) (addf_cast _ _ _)) ?_
  refine step X K 1 (send345 X K 1 3 (by decide) (n := 40) (dev25_eq d) (off52_eq d)) ?_
  exact h _

/-- Part 26: chain 3 waits for both transfers, adds a piece, sends at stage 3; chain 5 waits for its own transfer. -/
theorem part26 {v2 v8 v592 v609 : BitVec 32} {Q : α → sProp 𝕄} {k : (Σ' (_ : BitVec 32), BitVec 32) → TcProg F α}
    (h : ∀ r, At X K d 23 ![.sent 3, .sent 3, .sent 3, .sent 3, .sent 3, .back 2] ⊢ Runs d (k r) Q) :
    At X K d 22 ![.sent 3, .sent 3, .sent 3, .sent 2, .sent 3, .sent 2] ⊢ Runs d (k0_part26 xM h0 oM h1 sM h2 cc0_scratch1 cc0_scratch2 d v2 v8 v592 v609 >>= k) Q := by
  rw [k0_part26_eq_skeleton]; unfold k0_part26_skel
  simp only [Prog.lift, Prog.bind_op, Prog.bind_ret, Prog.pure_eq_ret]
  refine step X K 3 (await_own X K 3 2 (n := 40) credit_o) ?_
  refine step X K 3 (await_other X K 3 2 (n := 40) credit_s) ?_
  refine step X K 3 (read_own X K 3 (whole X d 3) (n := 40) (off47_eq d)) ?_
  refine step X K 3 (read_arrived X K 3 (whole X d 3) (n := 40) (land_whole d 3)) ?_
  refine step X K 3 (write_sum X K 3 (whole X d 3) (n := 40) (off47_eq d) (addf_cast _ _ _)) ?_
  refine step X K 3 (send345 X K 3 3 (by decide) (n := 40) (dev26_eq d) (off53_eq d)) ?_
  refine step X K 5 (await_own X K 5 2 (n := 40) credit_o) ?_
  exact h _

/-- Part 27: chain 5 waits for the other, adds a piece, sends at stage 3; chain 0 waits for its own transfer. -/
theorem part27 {v2 v5 v641 v658 v698 : BitVec 32} {Q : α → sProp 𝕄} {k : (Σ' (_ : BitVec 32) (_ : BitVec 32) (_ : BitVec 32), BitVec 32) → TcProg F α}
    (h : ∀ r, At X K d 24 ![.back 3, .sent 3, .sent 3, .sent 3, .sent 3, .sent 3] ⊢ Runs d (k r) Q) :
    At X K d 23 ![.sent 3, .sent 3, .sent 3, .sent 3, .sent 3, .back 2] ⊢ Runs d (k0_part27 xM h0 oM h1 sM h2 cc0_scratch1 cc0_scratch2 d v2 v5 v641 v658 v698 >>= k) Q := by
  rw [k0_part27_eq_skeleton]; unfold k0_part27_skel
  simp only [Prog.lift, Prog.bind_op, Prog.bind_ret, Prog.pure_eq_ret]
  refine step X K 5 (await_other X K 5 2 (n := 40) credit_s) ?_
  refine step X K 5 (read_own X K 5 (whole X d 5) (n := 40) (off39_1728_eq d)) ?_
  refine step X K 5 (read_arrived X K 5 (whole X d 5) (n := 40) (land_whole d 5)) ?_
  refine step X K 5 (write_sum X K 5 (whole X d 5) (n := 40) (off39_1728_eq d) (addf_cast _ _ _)) ?_
  refine step X K 5 (send345 X K 5 3 (by decide) (n := 40) (dev27_eq d) (off51_1728_eq d)) ?_
  refine step X K 0 (await_own X K 0 3 (n := 48) credit_o) ?_
  exact h _

end Parts

end Cert.AllReduce

end
-- ==== Proof.Third.lean ====
/-
The kernel's parts through the stages 3 to 5, where the finished rows travel back along the axes.
-/
module

public import proofs.«01_k».proof.Proof.Pieces

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Tab F) (K : Dev nD × Fin 43 → ℕ) {d : Dev nD} {h0 : xM.IsWhole} {h1 : oM.IsWhole} {h2 : sM.IsWhole} {α : Type}

/-- Part 28: chain 0 waits for the other, sends at stage 4; chain 2 waits for both transfers. -/
theorem part28 {v2 v7 v8 v690 v718 v726 v851 c0_i32_610 : BitVec 32} {Q : α → sProp 𝕄} {k : (Σ' (_ : BitVec 32) (_ : BitVec 32) (_ : BitVec 32) (_ : BitVec 32), BitVec 32) → TcProg F α}
    (h : ∀ r, At X K d 25 ![.sent 4, .sent 3, .ready 4, .sent 3, .sent 3, .sent 3] ⊢ Runs d (k r) Q) :
    At X K d 24 ![.back 3, .sent 3, .sent 3, .sent 3, .sent 3, .sent 3] ⊢ Runs d (k0_part28 xM h0 oM h1 sM h2 cc0_scratch1 cc0_scratch2 d v2 v7 v8 v690 v718 v726 v851 c0_i32_610 >>= k) Q := by
  rw [k0_part28_eq_skeleton]; unfold k0_part28_skel
  simp only [Prog.lift, Prog.bind_op, Prog.bind_ret, Prog.pure_eq_ret]
  refine step X K 0 (await_last X K 0 3 (n := 48) credit_o) ?_
  refine step X K 0 (send345 X K 0 4 (by decide) (n := 96) (dev28_eq d) (off54_eq d)) ?_
  refine step X K 2 (await_own X K 2 3 (n := 48) credit_o) ?_
  refine step X K 2 (await_last X K 2 3 (n := 48) credit_o) ?_
  exact h _

/-- Part 29: chain 2 sends at stage 4; chain 4 waits for both transfers, sends at stage 4. -/
theorem part29 {v2 v5 v746 v754 v881 : BitVec 32} {Q : α → sProp 𝕄} {k : (Σ' (_ : BitVec 32), BitVec 32) → TcProg F α}
    (h : ∀ r, At X K d 27 ![.sent 4, .sent 3, .sent 4, .sent 3, .sent 4, .sent 3] ⊢ Runs d (k r) Q) :
    At X K d 25 ![.sent 4, .sent 3, .ready 4, .sent 3, .sent 3, .sent 3] ⊢ Runs d (k0_part29 xM h0 oM h1 sM h2 cc0_scratch1 cc0_scratch2 d v2 v5 v746 v754 v881 >>= k) Q := by
  rw [k0_part29_eq_skeleton]; unfold k0_part29_skel
  simp only [Prog.lift, Prog.bind_op, Prog.bind_ret, Prog.pure_eq_ret]
  refine step X K 2 (send345 X K 2 4 (by decide) (n := 96) (dev29_eq d) (off55_eq d)) ?_
  refine step X K 4 (await_own X K 4 3 (n := 40) credit_o) ?_
  refine step X K 4 (await_last X K 4 3 (n := 40) credit_o) ?_
  refine step X K 4 (send345 X K 4 4 (by decide) (n := 80) (dev30_eq d) (off56_1408_eq d)) ?_
  exact h _

/-- Part 30: chain 1 waits for both transfers, sends at stage 4; chain 3 waits for both transfers. -/
theorem part30 {v2 v7 v774 v782 v810 : BitVec 32} {Q : α → sProp 𝕄} {k : (Σ' (_ : BitVec 32), BitVec 32) → TcProg F α}
    (h : ∀ r, At X K d 28 ![.sent 4, .sent 4, .sent 4, .ready 4, .sent 4, .sent 3] ⊢ Runs d (k r) Q) :
    At X K d 27 ![.sent 4, .sent 3, .sent 4, .sent 3, .sent 4, .sent 3] ⊢ Runs d (k0_part30 xM h0 oM h1 sM h2 cc0_scratch1 cc0_scratch2 d v2 v7 v774 v782 v810 >>= k) Q := by
  rw [k0_part30_eq_skeleton]; unfold k0_part30_skel
  simp only [Prog.lift, Prog.bind_op, Prog.bind_ret, Prog.pure_eq_ret]
  refine step X K 1 (await_own X K 1 3 (n := 40) credit_o) ?_
  refine step X K 1 (await_last X K 1 3 (n := 40) credit_o) ?_
  refine step X K 1 (send345 X K 1 4 (by decide) (n := 80) (dev31_eq d) (off57_eq d)) ?_
  refine step X K 3 (await_own X K 3 3 (n := 40) credit_o) ?_
  refine step X K 3 (await_last X K 3 3 (n := 40) credit_o) ?_
  exact h _

/-- Part 31: chain 3 sends at stage 4; chain 5 waits for both transfers. -/
theorem part31 {v2 v5 v8 v802 v830 v838 : BitVec 32} {Q : α → sProp 𝕄} {k : (Σ' (_ : BitVec 32) (_ : BitVec 32) (_ : BitVec 32), BitVec 32) → TcProg F α}
    (h : ∀ r, At X K d 29 ![.sent 4, .sent 4, .sent 4, .sent 4, .sent 4, .ready 4] ⊢ Runs d (k r) Q) :
    At X K d 28 ![.sent 4, .sent 4, .sent 4, .ready 4, .sent 4, .sent 3] ⊢ Runs d (k0_part31 xM h0 oM h1 sM h2 cc0_scratch1 cc0_scratch2 d v2 v5 v8 v802 v830 v838 >>= k) Q := by
  rw [k0_part31_eq_skeleton]; unfold k0_part31_skel
  simp only [Prog.lift, Prog.bind_op, Prog.bind_ret, Prog.pure_eq_ret]
  refine step X K 3 (send345 X K 3 4 (by decide) (n := 80) (dev32_eq d) (off58_eq d)) ?_
  refine step X K 5 (await_own X K 5 3 (n := 40) credit_o) ?_
  refine step X K 5 (await_last X K 5 3 (n := 40) credit_o) ?_
  exact h _

/-- Part 32: chain 5 sends at stage 4; chain 0 waits for both transfers, sends at stage 5; chain 2 waits for its own transfer. -/
theorem part32 {v2 v5 v858 v859 v880 : BitVec 32} {Q : α → sProp 𝕄} {k : (Σ' (_ : BitVec 32), BitVec 32) → TcProg F α}
    (h : ∀ r, At X K d 31 ![.sent 5, .sent 4, .back 4, .sent 4, .sent 4, .sent 4] ⊢ Runs d (k r) Q) :
    At X K d 29 ![.sent 4, .sent 4, .sent 4, .sent 4, .sent 4, .ready 4] ⊢ Runs d (k0_part32 xM h0 oM h1 sM h2 cc0_scratch1 cc0_scratch2 d v2 v5 v858 v859 v880 >>= k) Q := by
  rw [k0_part32_eq_skeleton]; unfold k0_part32_skel
  simp only [Prog.lift, Prog.bind_op, Prog.bind_ret, Prog.pure_eq_ret]
  refine step X K 5 (send345 X K 5 4 (by decide) (n := 80) (dev33_eq d) (off56_1728_eq d)) ?_
  refine step X K 0 (await_own X K 0 4 (n := 96) credit_o) ?_
  refine step X K 0 (await_last X K 0 4 (n := 96) credit_o) ?_
  refine step X K 0 (send345 X K 0 5 (by decide) (n := 192) (dev34_eq d) (off59_eq d)) ?_
  refine step X K 2 (await_own X K 2 4 (n := 96) credit_o) ?_
  exact h _

/-- Part 33: chain 2 waits for the other, sends at stage 5; chain 4 waits for both transfers. -/
theorem part33 {v2 v7 v8 v879 v900 v901 v998 : BitVec 32} {Q : α → sProp 𝕄} {k : (Σ' (_ : BitVec 32) (_ : BitVec 32), BitVec 32) → TcProg F α}
    (h : ∀ r, At X K d 32 ![.sent 5, .sent 4, .sent 5, .sent 4, .ready 5, .sent 4] ⊢ Runs d (k r) Q) :
    At X K d 31 ![.sent 5, .sent 4, .back 4, .sent 4, .sent 4, .sent 4] ⊢ Runs d (k0_part33 xM h0 oM h1 sM h2 cc0_scratch1 cc0_scratch2 d v2 v7 v8 v879 v900 v901 v998 >>= k) Q := by
  rw [k0_part33_eq_skeleton]; unfold k0_part33_skel
  simp only [Prog.lift, Prog.bind_op, Prog.bind_ret, Prog.pure_eq_ret]
  refine step X K 2 (await_last X K 2 4 (n := 96) credit_o) ?_
  refine step X K 2 (send345 X K 2 5 (by decide) (n := 192) (dev35_eq d) (off60_eq d)) ?_
  refine step X K 4 (await_own X K 4 4 (n := 80) credit_o) ?_
  refine step X K 4 (await_last X K 4 4 (n := 80) credit_o) ?_
  exact h _

/-- Part 34: chain 4 sends at stage 5; chain 1 waits for both transfers, sends at stage 5. -/
theorem part34 {v2 v5 v921 v922 v1027 c1_i32_762 : BitVec 32} {Q : α → sProp 𝕄} {k : (BitVec 32) → TcProg F α}
    (h : ∀ r, At X K d 34 ![.sent 5, .sent 5, .sent 5, .sent 4, .sent 5, .sent 4] ⊢ Runs d (k r) Q) :
    At X K d 32 ![.sent 5, .sent 4, .sent 5, .sent 4, .ready 5, .sent 4] ⊢ Runs d (k0_part34 xM h0 oM h1 sM h2 cc0_scratch1 cc0_scratch2 d v2 v5 v921 v922 v1027 c1_i32_762 >>= k) Q := by
  rw [k0_part34_eq_skeleton]; unfold k0_part34_skel
  simp only [Prog.lift, Prog.bind_op, Prog.bind_ret, Prog.pure_eq_ret]
  refine step X K 4 (send345 X K 4 5 (by decide) (n := 160) (dev36_eq d) (off61_1408_eq d)) ?_
  refine step X K 1 (await_own X K 1 4 (n := 80) credit_o) ?_
  refine step X K 1 (await_last X K 1 4 (n := 80) credit_o) ?_
  refine step X K 1 (send345 X K 1 5 (by decide) (n := 160) (dev37_eq d) (off62_eq d)) ?_
  exact h _

/-- Part 35: chain 3 waits for both transfers, sends at stage 5; chain 5 waits for its own transfer. -/
theorem part35 {v2 v7 v942 v943 v964 : BitVec 32} {Q : α → sProp 𝕄} {k : (BitVec 32) → TcProg F α}
    (h : ∀ r, At X K d 35 ![.sent 5, .sent 5, .sent 5, .sent 5, .sent 5, .back 4] ⊢ Runs d (k r) Q) :
    At X K d 34 ![.sent 5, .sent 5, .sent 5, .sent 4, .sent 5, .sent 4] ⊢ Runs d (k0_part35 xM h0 oM h1 sM h2 cc0_scratch1 cc0_scratch2 d v2 v7 v942 v943 v964 >>= k) Q := by
  rw [k0_part35_eq_skeleton]; unfold k0_part35_skel
  simp only [Prog.lift, Prog.bind_op, Prog.bind_ret, Prog.pure_eq_ret]
  refine step X K 3 (await_own X K 3 4 (n := 80) credit_o) ?_
  refine step X K 3 (await_last X K 3 4 (n := 80) credit_o) ?_
  refine step X K 3 (send345 X K 3 5 (by decide) (n := 160) (dev38_eq d) (off63_eq d)) ?_
  refine step X K 5 (await_own X K 5 4 (n := 80) credit_o) ?_
  exact h _

/-- Part 36: chain 5 waits for the other, sends at stage 5; chain 0 waits for both transfers; chain 2 waits for its own transfer. -/
theorem part36 {v2 v8 v963 v985 v1006 : BitVec 32} {Q : α → sProp 𝕄} {k : (BitVec 32) → TcProg F α}
    (h : ∀ r, At X K d 36 ![.ready 6, .sent 5, .back 5, .sent 5, .sent 5, .sent 5] ⊢ Runs d (k r) Q) :
    At X K d 35 ![.sent 5, .sent 5, .sent 5, .sent 5, .sent 5, .back 4] ⊢ Runs d (k0_part36 xM h0 oM h1 sM h2 cc0_scratch1 cc0_scratch2 d v2 v8 v963 v985 v1006 >>= k) Q := by
  rw [k0_part36_eq_skeleton]; unfold k0_part36_skel
  simp only [Prog.lift, Prog.bind_op, Prog.bind_ret, Prog.pure_eq_ret]
  refine step X K 5 (await_last X K 5 4 (n := 80) credit_o) ?_
  refine step X K 5 (send345 X K 5 5 (by decide) (n := 160) (dev39_eq d) (off61_1728_eq d)) ?_
  refine step X K 0 (await_own X K 0 5 (n := 192) credit_o) ?_
  refine step X K 0 (await_last X K 0 5 (n := 192) credit_o) ?_
  refine step X K 2 (await_own X K 2 5 (n := 192) credit_o) ?_
  exact h _

/-- Part 37: chain 2 waits for the other; chain 4 waits for both transfers; chain 1 waits for both transfers. -/
theorem part37 {v1027 v1048 : BitVec 32} {Q : α → sProp 𝕄} {k : (PUnit) → TcProg F α}
    (h : ∀ r, At X K d 36 ![.ready 6, .ready 6, .ready 6, .sent 5, .ready 6, .sent 5] ⊢ Runs d (k r) Q) :
    At X K d 36 ![.ready 6, .sent 5, .back 5, .sent 5, .sent 5, .sent 5] ⊢ Runs d (k0_part37 xM h0 oM h1 sM h2 cc0_scratch1 cc0_scratch2 d v1027 v1048 >>= k) Q := by
  rw [k0_part37_eq_skeleton]; unfold k0_part37_skel
  simp only [Prog.lift, Prog.bind_op, Prog.bind_ret, Prog.pure_eq_ret]
  refine step X K 2 (await_last X K 2 5 (n := 192) credit_o) ?_
  refine step X K 4 (await_own X K 4 5 (n := 160) credit_o) ?_
  refine step X K 4 (await_last X K 4 5 (n := 160) credit_o) ?_
  refine step X K 1 (await_own X K 1 5 (n := 160) credit_o) ?_
  refine step X K 1 (await_last X K 1 5 (n := 160) credit_o) ?_
  exact h _

end Parts

end Cert.AllReduce

end
-- ==== Proof.Body.lean ====
/-
The body: its parts one after the other, from a device's start to the state in which all its chains are done.
-/
module

public import proofs.«01_k».proof.Proof.Start
public import proofs.«01_k».proof.Proof.First
public import proofs.«01_k».proof.Proof.Second
public import proofs.«01_k».proof.Proof.Third

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (X : Dev nD → Tab F) (K : Dev nD × Fin 43 → ℕ) {d : Dev nD} {h0 : xM.IsWhole} {h1 : oM.IsWhole} {h2 : sM.IsWhole}

/-- What a program does not touch stays as it is. -/
theorem framed {α : Type} {P R : sProp 𝕄} {p : TcProg F α} {Q Q' : α → sProp 𝕄} (h : P ⊢ Runs d p Q) (h' : ∀ r, iprop(R ∗ Q r) ⊢ Q' r) :
    iprop(R ∗ P) ⊢ Runs d p Q' := by
  iintro ⟨HR, HP⟩
  iapply (wp_wand_r Idealize.ShloMosaic.frame (wpE (defs₀ (F := F)) 𝒱₀ (d : Thread nD τ) none) Set.univ)
  isplitl [HP]
  · iapply h; iexact HP
  iintro %r HQ
  iapply (h' r)
  isplitl [HR]; · iexact HR
  iexact HQ

/-- A fact held beside other things may be assumed. -/
theorem knowing {φ : Prop} {P R G : sProp 𝕄} (h : φ → iprop(R ∗ P) ⊢ G) : iprop(R ∗ ⌜φ⌝ ∗ P) ⊢ G := by
  iintro ⟨HR, %hφ, HP⟩
  iapply (h hφ)
  isplitl [HR]; · iexact HR
  iexact HP

/-- A program that has ended. -/
theorem ended {α : Type} {P : sProp 𝕄} {a : α} {Q : α → sProp 𝕄} (h : P ⊢ Q a) : P ⊢ Runs d (Prog.ret a : TcProg F α) Q := by
  unfold Runs
  rw [wp_ret]
  iintro H
  imodintro
  iapply h; iexact H

/-- Every operation of the body on one device: from its start all its chains are done, and the barrier semaphore too. -/
theorem body_runs :
    Opening X K d ⊢ Runs d (cc0_body (F := F) xM h0 oM h1 sM h2 cc0_scratch1 cc0_scratch2)
      (fun _ => iprop(semVal (barCell d) 0 ∗ At X K d 36 (fun _ => .ready 6))) := by
  rw [cc0_body_eq_skeleton]; unfold cc0_body_skel
  unfold Runs
  rw [wp_bind, k0_part38_eq_skeleton]; unfold k0_part38_skel
  refine part1 X K fun _ _ _ _ _ => ?_
  refine framed (Q := fun r : (Σ' (_ : Dev nD), BitVec 32) => iprop(⌜r.1 = d⌝ ∗ At X K d 36 ![.ready 6, .ready 6, .ready 6, .ready 6, .ready 6, .sent 5])) ?_ ?_
  · refine part2 X K fun _ => ?_
    refine part3 X K fun _ => ?_
    refine part4 X K fun _ => ?_
    refine part5 X K fun _ => ?_
    refine part6 X K fun _ _ _ _ => ?_
    refine part7 X K fun _ => ?_
    refine part8 X K fun _ => ?_
    refine part9 X K fun _ _ _ _ => ?_
    refine part10 X K fun _ => ?_
    refine part11 X K fun _ => ?_
    refine part12 X K fun _ _ _ _ => ?_
    refine part13 X K fun _ => ?_
    refine part14 X K fun _ => ?_
    refine part15 X K fun _ _ _ => ?_
    refine part16 X K fun _ => ?_
    refine part17 X K fun _ => ?_
    refine part18 X K fun _ _ _ => ?_
    refine part19 X K fun _ => ?_
    refine part20 X K fun _ => ?_
    refine part21 X K fun _ _ => ?_
    refine part22 X K fun _ => ?_
    refine part23 X K fun _ => ?_
    refine part24 X K fun _ => ?_
    refine part25 X K fun _ => ?_
    refine part26 X K fun _ => ?_
    refine part27 X K fun _ => ?_
    refine part28 X K fun _ => ?_
    refine part29 X K fun _ => ?_
    refine part30 X K fun _ => ?_
    refine part31 X K fun _ => ?_
    refine part32 X K fun _ => ?_
    refine part33 X K fun _ => ?_
    refine part34 X K fun _ => ?_
    refine part35 X K fun _ => ?_
    refine part36 X K fun _ => ?_
    refine part37 X K fun _ => ?_
    simp only [Prog.lift, Prog.bind_op, Prog.bind_ret, Prog.pure_eq_ret]
    refine step X K 3 (await_own X K 3 5 (n := 160) credit_o) ?_
    refine step X K 3 (await_last X K 3 5 (n := 160) credit_o) ?_
    refine ended ?_
    iintro H
    isplitr; · (ipureintro; rfl)
    iapply (show At X K d 36 _ ⊢ At X K d 36 ![.ready 6, .ready 6, .ready 6, .ready 6, .ready 6, .sent 5] from BI.Entails.refl _)
    iexact H
  · rintro ⟨d', u⟩
    dsimp only
    simp only [Prog.lift, Prog.bind_op, Prog.bind_ret, Prog.pure_eq_ret]
    refine knowing fun hd => ?_
    have hd : d' = d := hd
    subst hd
    refine framed (Q := fun _ => At X K d' 36 (fun _ => .ready 6)) ?_ fun _ => BI.Entails.refl _
    refine step X K 5 (await_own X K 5 5 (n := 160) credit_o) ?_
    refine step X K 5 (await_last X K 5 5 (n := 160) credit_o) ?_
    exact ended (BI.Entails.refl _)

end Body

end Cert.AllReduce

end
-- ==== Proof.Finish.lean ====
/-
The end: with every chain done a device closes its cells, which gives its semaphores back at zero, and puts the chains'
rows together to whole buffers.
-/
module

public import proofs.«01_k».proof.Proof.Body

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, sorted by what they are for -/

/-- A cell's number from its use: a chain's send cell, a chain's and stage's receive cell, or the barrier. -/
def cellNo : Fin 6 ⊕ (Fin 6 × Fin 6) ⊕ Unit → Fin 43
  | .inl c => iSend c
  | .inr (.inl cs) => iRecv cs.1 cs.2
  | .inr (.inr _) => 0

theorem cellNo_bijective : Function.Bijective cellNo :=
  (Fintype.bijective_iff_injective_and_card _).mpr ⟨by decide +kernel, by decide⟩

/-- What there is for each cell: for the send cells, the receive cells, and the barrier. -/
theorem by_use (Φ : Fin 43 → sProp 𝕄) :
    bigSep Finset.univ Φ = iprop((bigSep Finset.univ fun c : Fin 6 => Φ (iSend c))
      ∗ (bigSep Finset.univ fun c : Fin 6 => bigSep Finset.univ fun s : Fin 6 => Φ (iRecv c s)) ∗ Φ 0) := by
  rw [bigSep_univ_equiv (Equiv.ofBijective cellNo cellNo_bijective), bigSep_univ_sum, bigSep_univ_sum, bigSep_univ_prod,
    bigSep_univ_of_subsingleton ()]
  rfl

section Finish
variable (X : Dev nD → Tab F) (K : Dev nD × Fin 43 → ℕ) {d : Dev nD}

/-- Every cell of a kind, closed at once: each by what all share and what there is for it. -/
theorem all_closed {I : Type} [Fintype I] [DecidableEq I] {R : sProp 𝕄} [BI.Persistent R] {Φ Ψ : I → sProp 𝕄}
    (h : ∀ i, iprop(R ∗ Φ i) ⊢ |={Set.univ}=> Ψ i) : iprop(R ∗ bigSep Finset.univ Φ) ⊢ |={Set.univ}=> bigSep Finset.univ Ψ :=
  (bigSep_with_persistent fun i _ => h i).trans (bigSep_fupd _ _)

theorem close_send (c : Fin 6) :
    iprop(Shared X K ∗ atPos ER (sendCell d c) 6 ∅ 0) ⊢ |={Set.univ}=> semVal (sendCell d c) 0 := by
  iintro ⟨#HS, Hat⟩
  have hI := shared_inv X K d (iSend c)
  iapply (Rounds.cell_close ER (Rd X) (Set.mem_univ (K (d, iSend c))) (fun h => h) (R := 6) (duties_send_later X d c))
  isplitr; · iapply hI; iexact HS
  iexact Hat

theorem close_recv (c s : Fin 6) :
    iprop(Shared X K ∗ atPos ER (kcell (d, iRecv c s)) 1 ∅ 0) ⊢ |={Set.univ}=> semVal (kcell (d, iRecv c s)) 0 := by
  have hs : Fin.ofNat 6 s.val = s := by revert s; decide
  have hd := duties_recv_later X d c s.val
  unfold recvCell at hd
  rw [hs] at hd
  iintro ⟨#HS, Hat⟩
  have hI := shared_inv X K d (iRecv c s)
  iapply (Rounds.cell_close ER (Rd X) (Set.mem_univ (K (d, iRecv c s))) (fun h => h) (R := 1) hd)
  isplitr; · iapply hI; iexact HS
  iexact Hat

/-- A chain that is done: its semaphores' places, and its rows. -/
theorem chain_done (c : Fin 6) :
    Holds X d c (.ready 6) ⊢ iprop(atPos ER (sendCell d c) 6 ∅ 0
      ∗ (bigSep Finset.univ fun s : Fin 6 => atPos ER (kcell (d, iRecv c s)) 1 ∅ 0)
      ∗ rows xM d (base c) (8 * eighth c) (X d) ∗ rows oM d (base c) (8 * eighth c) (total X)
      ∗ bigSep Finset.univ fun k => spent (F := F) d c k) := by
  rw [bigSep_six, bigSep_three]
  show iprop(((atPos ER (kcell (d, iRecv c 5)) 1 ∅ 0 ∗ atPos ER (kcell (d, iRecv c 4)) 1 ∅ 0 ∗ atPos ER (kcell (d, iRecv c 3)) 1 ∅ 0
      ∗ atPos ER (kcell (d, iRecv c 2)) 1 ∅ 0 ∗ atPos ER (kcell (d, iRecv c 1)) 1 ∅ 0 ∗ atPos ER (kcell (d, iRecv c 0)) 1 ∅ 0 ∗ emp)
      ∗ atPos ER (sendCell d c) 6 ∅ 0 ∗ reached ER (sendCell d c) 6 ∗ emp)
      ∗ rows oM d (base c) (8 * eighth c) (total X) ∗ emp
      ∗ (xKeep X d c ∗ xGive X d c) ∗ spent (F := F) d c 0 ∗ spent (F := F) d c 1 ∗ spent (F := F) d c 2) ⊢ _
  have hx := rows_unhalve xM d (sz_zero c) (lead_zero d c ▸ keep_give d c 0) (X d)
  iintro ⟨⟨⟨H5, H4, H3, H2, H1, H0, -⟩, Hs, -, -⟩, Ho, -, Hx, Hp0, Hp1, Hp2⟩
  unfold xKeep xGive
  ihave Hx := hx $$ Hx
  isplitl [Hs]; · iexact Hs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hx]; · iexact Hx
  isplitl [Ho]; · iexact Ho
  isplitl [Hp0]; · iexact Hp0
  isplitl [Hp1]; · iexact Hp1
  iexact Hp2

variable (d) in
/-- What a device has at the end: nothing owed, its semaphores of the protocol at zero, its input as it was, its result
    holding the total, and its scratch. -/
def Ending : sProp 𝕄 :=
  iprop((∃ W, owes (d : Thread nD τ) 0 W) ∗ (bigSep Finset.univ fun i : Fin 43 => semVal (kcell (d, i)) 0)
    ∗ rows xM d 0 2048 (X d) ∗ rows oM d 0 2048 (total X) ∗ anyRows sM d 0 1792)

theorem chains_done : (bigSep Finset.univ fun c => Holds X d c (.ready 6))
    ⊢ iprop((bigSep Finset.univ fun c : Fin 6 => atPos ER (sendCell d c) 6 ∅ 0)
      ∗ (bigSep Finset.univ fun c : Fin 6 => bigSep Finset.univ fun s : Fin 6 => atPos ER (kcell (d, iRecv c s)) 1 ∅ 0)
      ∗ rows xM d 0 2048 (X d) ∗ rows oM d 0 2048 (total X) ∗ anyRows (F := F) sM d 0 1792) := by
  have h := bigSep_mono (s := (Finset.univ : Finset (Fin 6))) fun c _ => chain_done X (d := d) c
  rw [bigSep_sep', bigSep_sep', bigSep_sep', bigSep_sep'] at h
  exact h.trans (sep_mono_right (sep_mono_right (BIClass.sep_mono (x_paste d (X d)) (BIClass.sep_mono (o_paste d (total X)) (s_paste d)))))

/-- Every chain done and the barrier semaphore at zero make the end. -/
theorem finish : iprop(semVal (barCell d) 0 ∗ At X K d 36 (fun _ => .ready 6)) ⊢ |={Set.univ}=> Ending X d := by
  rw [at_all]
  have hd := chains_done X (d := d)
  have hs : iprop(Shared X K ∗ bigSep Finset.univ fun c : Fin 6 => atPos ER (sendCell d c) 6 ∅ 0)
      ⊢ |={Set.univ}=> bigSep Finset.univ fun c : Fin 6 => semVal (sendCell d c) 0 := all_closed fun c => close_send X K c
  have hr : iprop(Shared X K ∗ bigSep Finset.univ fun c : Fin 6 => bigSep Finset.univ fun s : Fin 6 => atPos ER (kcell (d, iRecv c s)) 1 ∅ 0)
      ⊢ |={Set.univ}=> bigSep Finset.univ fun c : Fin 6 => bigSep Finset.univ fun s : Fin 6 => semVal (kcell (d, iRecv c s)) 0 :=
    all_closed fun c => all_closed fun s => close_recv X K c s
  iintro ⟨Hb, #HS, HO, Hc⟩
  ihave Hc := hd $$ Hc
  icases Hc with ⟨Hs, Hr, Hx, Ho, Hp⟩
  imod hs $$ [Hs] with Hs
  · isplitr; · iexact HS
    iexact Hs
  imod hr $$ [Hr] with Hr
  · isplitr; · iexact HS
    iexact Hr
  imodintro
  unfold Ending Owing
  rw [owed_end, by_use]
  isplitl [HO]; · iexact HO
  isplitl [Hs Hr Hb]
  · isplitl [Hs]; · iexact Hs
    isplitl [Hr]; · iexact Hr
    iexact Hb
  isplitl [Hx]; · iexact Hx
  isplitl [Ho]; · iexact Ho
  iexact Hp

/-- The body takes a device from its start to its end. -/
theorem body_ends {h0 : xM.IsWhole} {h1 : oM.IsWhole} {h2 : sM.IsWhole} :
    Opening X K d ⊢ Runs d (cc0_body (F := F) xM h0 oM h1 sM h2 cc0_scratch1 cc0_scratch2) (fun _ => Ending X d) :=
  ((body_runs X K).trans (wp_mono _ _ _ fun _ => finish X K)).trans (wp_fupd _ _ _ _ _)

end Finish

end Cert.AllReduce

end
-- ==== Proof.Deal.lean ====
/-
The launch, first half: the protocol's cells and duties made, their invariants opened on every device's semaphores at
once, and the duties dealt to the devices that are to pay them.
-/
module

public import proofs.«01_k».proof.Proof.Finish
public import proofs.«01_k».proof.Proof.Gen.KernelIdeal.Launch

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the launch makes -/

/-- Every device's cells of the protocol. -/
def allCells : Finset (GSem nD τ sig) := Finset.univ.map ⟨kcell, kcell_injective⟩

/-- A cell's duties on one device: the barrier's by axis, the send cells' by chain and stage, and the receive cells'. -/
abbrev DutyNo : Type := Fin 3 ⊕ (Fin 6 × Fin 6) ⊕ (Fin 6 × Fin 6)

theorem recv_val (d : Dev nD) (c s : Fin 6) : kcell (d, iRecv c s) = recvCell d c s.val := by
  unfold recvCell
  rw [show Fin.ofNat 6 s.val = s from by revert s; decide]

/-- The cell, the round and the name of a duty. -/
def dutyAt (d : Dev nD) : DutyNo → GSem nD τ sig × ℕ × Fin 3
  | .inl a => (barCell d, 0, a)
  | .inr (.inl cs) => (sendCell d cs.1, cs.2.val, 0)
  | .inr (.inr cs) => (recvCell d cs.1 cs.2.val, 0, 0)

/-- A duty's cell's number, its round and its name tell it from every other of the device. -/
def dutyKey : DutyNo → Fin 43 × ℕ × Fin 3
  | .inl a => (0, 0, a)
  | .inr (.inl cs) => (iSend cs.1, cs.2.val, 0)
  | .inr (.inr cs) => (iRecv cs.1 cs.2, 0, 0)

theorem dutyKey_injective : Function.Injective dutyKey := by decide +kernel

theorem dutyAt_key (d : Dev nD) (t : DutyNo) : dutyAt d t = (kcell (d, (dutyKey t).1), (dutyKey t).2) := by
  rcases t with a | cs | cs
  · rfl
  · rfl
  · unfold dutyAt dutyKey; dsimp only; rw [recv_val]

theorem dutyAt_injective : Function.Injective fun dt : Dev nD × DutyNo => dutyAt dt.1 dt.2 := by
  rintro ⟨d, t⟩ ⟨d', t'⟩ h
  have h : dutyAt d t = dutyAt d' t' := h
  rw [dutyAt_key, dutyAt_key] at h
  have h1 := kcell_injective (congrArg Prod.fst h)
  have h2 : d = d' := congrArg Prod.fst h1
  have h3 : dutyKey t = dutyKey t' := Prod.ext (congrArg Prod.snd h1) (congrArg (fun x : GSem nD τ sig × ℕ × Fin 3 => x.2) h)
  rw [h2, dutyKey_injective h3]

/-- Every device's duties. -/
def allDuties : Finset (GSem nD τ sig × ℕ × Fin 3) := Finset.univ.map ⟨_, dutyAt_injective⟩

/-- What the launch starts the ghost state with: the pipeline's cells, and the all-reduce's. -/
def u₀ : UU :=
  (initOf (Pipeline.cells cfgs cellOf_inj) (Pipeline.launchToks cfgs cellOf_inj), initOf allCells allDuties)

section Made
variable (X : Dev nD → Tab F) (d : Dev nD)

/-- The duties of device `d`'s own cells. -/
def ownDuties : sProp 𝕄 :=
  iprop((bigSep Finset.univ fun a : Fin 3 => dutyTok ER (barCell d) 0 a)
    ∗ (bigSep Finset.univ fun c : Fin 6 => bigSep Finset.univ fun s : Fin 6 => dutyTok ER (sendCell d c) s.val 0)
    ∗ (bigSep Finset.univ fun c : Fin 6 => bigSep Finset.univ fun s : Fin 6 => dutyTok ER (recvCell d c s.val) 0 0))

/-- The duties device `d` is to pay. -/
def payDuties : sProp 𝕄 :=
  iprop((bigSep Finset.univ fun a : Fin 3 => dutyTok ER (barCell (flip d a)) 0 a)
    ∗ (bigSep Finset.univ fun c : Fin 6 => bigSep Finset.univ fun s : Fin 6 => dutyTok ER (sendCell d c) s.val 0)
    ∗ (bigSep Finset.univ fun c : Fin 6 => bigSep Finset.univ fun s : Fin 6 => dutyTok ER (recvCell (peer d c (stageAxis s.val)) c s.val) 0 0))

/-- What the launch makes for device `d`: its cells' states, its places at them, and their duties. -/
def Made : sProp 𝕄 :=
  iprop((bigSep Finset.univ fun i : Fin 43 => roundState ER (Rd X) (kcell (d, i)) 0)
    ∗ ((bigSep Finset.univ fun i : Fin 43 => atPos ER (kcell (d, i)) 0 ∅ 0) ∗ bigSep Finset.univ fun i : Fin 43 => reached ER (kcell (d, i)) 0)
    ∗ ownDuties d)

/-- What stays with device `d`: its places, and the duties it pays. -/
def Places : sProp 𝕄 := iprop((bigSep Finset.univ fun i : Fin 43 => atPos ER (kcell (d, i)) 0 ∅ 0) ∗ payDuties d)

end Made

section Share
variable (X : Dev nD → Tab F)

theorem cells_by_device (Φ : GSem nD τ sig → sProp 𝕄) :
    bigSep allCells Φ = bigSep Finset.univ fun d : Dev nD => bigSep Finset.univ fun i : Fin 43 => Φ (kcell (d, i)) := by
  unfold allCells
  rw [bigSep_map, bigSep_univ_prod]
  rfl

theorem duties_by_device :
    bigSep allDuties (fun x => (dutyTok ER x.1 x.2.1 x.2.2 : sProp 𝕄)) = bigSep Finset.univ fun d : Dev nD => ownDuties d := by
  unfold allDuties
  rw [bigSep_map, bigSep_univ_prod]
  refine bigSep_congr fun d _ => ?_
  unfold ownDuties
  rw [bigSep_univ_sum, bigSep_univ_sum, bigSep_univ_prod, bigSep_univ_prod]
  rfl

theorem made : BI.own (ER (initOf allCells allDuties)) ⊢ (|==> bigSep Finset.univ (Made X) : sProp 𝕄) := by
  iintro HX
  imod (Rounds.fund ER (Rd X) allCells allDuties) $$ HX with ⟨Hst, Hr, Hat, Hd⟩
  imodintro
  ihave Hst := (Entails.of_eq (cells_by_device fun g => roundState ER (Rd X) g 0)) $$ Hst
  ihave Hat := (Entails.of_eq (cells_by_device fun g => atPos ER g 0 ∅ 0)) $$ Hat
  ihave Hr := (Entails.of_eq (cells_by_device fun g => reached ER g 0)) $$ Hr
  ihave Hd := (Entails.of_eq duties_by_device) $$ Hd
  unfold Made; simp only [bigSep_sep']
  isplitl [Hst]; · iexact Hst
  isplitl [Hat Hr]
  · isplitl [Hat] <;> iassumption
  iexact Hd

/-! ## The semaphores -/

/-- The kernel's own semaphores are the send and the receive semaphores. -/
def osem (i : Fin 42) : SemLoc sig := csem i.succ

theorem ownSemFacts : Pipeline.OwnSemFacts cfg0.spec osem := by decide +kernel

/-- The barrier semaphore is the one semaphore that is not the kernel's own. -/
theorem unscoped_eq (d : Dev nD) : (unscopedSems0 d : sProp 𝕄) = semVal (barCell d) 0 := by
  unfold unscopedSems0; rw [bigSep_eq_bigSepL_of_eq [SemLoc.reg barS] (by decide) (by decide)]; rfl

/-- The barrier semaphore and the kernel's own are all semaphores of the protocol. -/
theorem sems_eq (d : Dev nD) : (bigSep Finset.univ fun i : Fin 43 => (semVal (kcell (d, i)) 0 : sProp 𝕄))
    = iprop(unscopedSems0 d ∗ Pipeline.ownSems0 (Ix := Unit) (Name := ℕ) (U := UU) (Lvl := ℕ) (Val := Elt F) (τ := τ) osem d) := by
  rw [bigSep_univ_at _ 0, unscoped_eq, show (Finset.univ : Finset (Fin 43)).erase 0 = Finset.univ.map (Fin.succEmb 42) by decide, bigSep_map]
  rfl

/-! ## The invariants -/

/-- What all devices know of the cells. -/
def Known (K : Dev nD × Fin 43 → ℕ) : sProp 𝕄 :=
  iprop((bigSep Finset.univ fun ck => cellInv ER (Rd X) (K ck) (kcell ck)) ∗ (bigSep Finset.univ fun ck => reached ER (kcell ck) 0))

instance Known_persistent (K : Dev nD × Fin 43 → ℕ) : BI.Persistent (Known X K) := by unfold Known; infer_instance

/-- What a device starts with of the protocol. -/
def Dealt (d : Dev nD) : sProp 𝕄 := iprop(∃ K, Known X K ∗ Places d)

theorem opened (d : Dev nD) :
    iprop(Pipeline.ownSems0 (Ix := Unit) (Name := ℕ) (U := UU) (Lvl := ℕ) (Val := Elt F) (τ := τ) osem d ∗ unscopedSems0 d ∗ Made X d)
      ⊢ |={Set.univ}=> iprop((bigSep Finset.univ fun i : Fin 43 => iprop(∃ κ : ℕ, cellInv ER (Rd X) κ (kcell (d, i))))
          ∗ ((bigSep Finset.univ fun i : Fin 43 => atPos ER (kcell (d, i)) 0 ∅ 0) ∗ bigSep Finset.univ fun i : Fin 43 => reached ER (kcell (d, i)) 0)
          ∗ ownDuties d) := by
  have halloc : iprop((bigSep Finset.univ fun i : Fin 43 => semVal (kcell (d, i)) 0) ∗ bigSep Finset.univ fun i : Fin 43 => roundState ER (Rd X) (kcell (d, i)) 0)
      ⊢ (|={Set.univ}=> bigSep Finset.univ fun i : Fin 43 => iprop(∃ κ : ℕ, cellInv ER (Rd X) κ (kcell (d, i))) : sProp 𝕄) := by
    rw [← bigSep_sep']
    exact (bigSep_mono fun i _ => (Rounds.body_intro ER (Rd X) (kcell (d, i))).trans inv_alloc).trans (bigSep_fupd _ _)
  have hsem := Entails.of_eq (sems_eq (F := F) d).symm
  unfold Made
  iintro ⟨Hos, Hus, Hst, Hat, Hd⟩
  ihave Hv := hsem $$ [Hos Hus]
  · isplitl [Hus] <;> iassumption
  imod halloc $$ [Hv Hst] with Hinv
  · isplitl [Hv] <;> iassumption
  imodintro
  isplitl [Hinv]; · iexact Hinv
  isplitl [Hat]; · iexact Hat
  iexact Hd

/-! ## The duties dealt -/

/-- The devices across an axis. -/
def flips (a : Fin 3) : Dev nD ≃ Dev nD := ⟨fun d => flip d a, fun d => flip d a, fun d => flip_flip d a, fun d => flip_flip d a⟩

/-- What there is for every device and every index, each index's across an axis of its own. -/
theorem across_eq {I : Type} [Fintype I] (ax : I → Fin 3) (Φ : Dev nD → I → sProp 𝕄) :
    (bigSep Finset.univ fun d => bigSep Finset.univ fun i => Φ d i)
      = bigSep Finset.univ fun d => bigSep Finset.univ fun i => Φ (flip d (ax i)) i := by
  rw [bigSep_univ_comm, bigSep_univ_comm (fun d i => Φ (flip d (ax i)) i)]
  exact bigSep_congr fun i _ => bigSep_univ_equiv (flips (ax i)) fun d => Φ d i

theorem duties_dealt : (bigSep Finset.univ fun d : Dev nD => (ownDuties d : sProp 𝕄)) = bigSep Finset.univ fun d : Dev nD => payDuties d := by
  have hb := across_eq (F := F) (fun a : Fin 3 => a) fun d a => dutyTok ER (barCell d) 0 a
  have hr := across_eq (F := F) (fun cs : Fin 6 × Fin 6 => axis cs.1 (stageAxis cs.2.val)) fun d cs => dutyTok ER (recvCell d cs.1 cs.2.val) 0 0
  simp only [bigSep_univ_prod] at hr
  unfold ownDuties payDuties
  simp only [bigSep_sep']
  rw [hb, hr]
  rfl

theorem dealt :
    (bigSep Finset.univ fun d : Dev nD => iprop((bigSep Finset.univ fun i : Fin 43 => iprop(∃ κ : ℕ, cellInv ER (Rd X) κ (kcell (d, i))))
          ∗ ((bigSep Finset.univ fun i : Fin 43 => atPos ER (kcell (d, i)) 0 ∅ 0) ∗ bigSep Finset.univ fun i : Fin 43 => reached ER (kcell (d, i)) 0)
          ∗ ownDuties d) : sProp 𝕄)
      ⊢ bigSep Finset.univ (Dealt X) := by
  rw [bigSep_sep', bigSep_sep', bigSep_sep', duties_dealt,
    ← bigSep_univ_prod (fun ck : Dev nD × Fin 43 => iprop(∃ κ : ℕ, cellInv ER (Rd X) κ (kcell ck))),
    ← bigSep_univ_prod (fun ck : Dev nD × Fin 43 => (reached ER (kcell ck) 0 : sProp 𝕄))]
  iintro ⟨HI, ⟨Hat, #HR⟩, Hd⟩
  ihave HK := (BI.bigSep_exists_pi Finset.univ (fun (ck : Dev nD × Fin 43) (κ : ℕ) => (cellInv ER (Rd X) κ (kcell ck) : sProp 𝕄))) $$ HI
  icases HK with ⟨%K, #HI⟩
  have hpl : iprop((bigSep Finset.univ fun d : Dev nD => bigSep Finset.univ fun i : Fin 43 => atPos ER (kcell (d, i)) 0 ∅ 0)
      ∗ bigSep Finset.univ fun d : Dev nD => payDuties d) ⊢ (bigSep Finset.univ fun d : Dev nD => Places d : sProp 𝕄) := by
    rw [← bigSep_sep']; exact BI.Entails.refl _
  have hk : ∀ d ∈ (Finset.univ : Finset (Dev nD)), iprop(Known X K ∗ Places d) ⊢ Dealt X d := fun d _ => by
    unfold Dealt; iintro H; iexists K; iexact H
  iapply (bigSep_with_persistent (R := Known X K) hk)
  isplitr
  · unfold Known; isplitl; · iexact HI
    iexact HR
  iapply hpl
  isplitl [Hat] <;> iassumption

/-- Every device's semaphores at zero and what was made become what each starts with. -/
theorem deal : (bigSep Finset.univ fun d => iprop(Pipeline.ownSems0 (Ix := Unit) (Name := ℕ) (U := UU) (Lvl := ℕ) (Val := Elt F) (τ := τ) osem d
      ∗ unscopedSems0 d ∗ Made X d) : sProp 𝕄)
    ⊢ |={Set.univ}=> bigSep Finset.univ (Dealt X) :=
  ((bigSep_mono fun d _ => opened X d).trans (bigSep_fupd _ _)).trans (BI.fupd_mono (dealt X))

end Share

end Cert.AllReduce

end
-- ==== Proof.Credit.lean ====
/-
The launch, second half: what all devices together owe each cell is what its device waits for, and with that a device
has all it starts its body with.
-/
module

public import proofs.«01_k».proof.Proof.Deal

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What all devices owe a cell -/

theorem bar_eq_iff {d d' : Dev nD} : barCell d = barCell d' ↔ d = d' :=
  ⟨fun h => congrArg Prod.fst (kcell_injective h), fun h => h ▸ rfl⟩

theorem iRecv_injective : Function.Injective fun cs : Fin 6 × Fin 6 => iRecv cs.1 cs.2 := by decide +kernel

/-- The `p`-th transfer completes on a cell exactly if it is the transfer of that chain and stage and comes from across. -/
theorem target_eq_iff {d d' : Dev nD} {c s : Fin 6} {p : ℕ} (hp : p < 36) :
    recvCell d c s.val = target d' p ↔ p = place c s.val ∧ d' = peer d c (stageAxis s.val) := by
  constructor
  · intro h
    have h := kcell_injective h
    have h1 : d = peer d' (chainAt p) (stageAxis (stageAt p)) := congrArg Prod.fst h
    have h2 := iRecv_injective (a₁ := (c, Fin.ofNat 6 s.val)) (a₂ := (chainAt p, Fin.ofNat 6 (stageAt p))) (congrArg Prod.snd h)
    have hc : c = chainAt p := congrArg Prod.fst h2
    have hs : s.val = stageAt p := by
      have h3 := congrArg (fun x : Fin 6 × Fin 6 => x.2.val) h2
      simp only [Fin.ofNat] at h3
      have := s.isLt
      have : stageAt p < 6 := by unfold stageAt; omega
      omega
    rw [hc, hs, h1, peer_peer]
    exact ⟨place_at.symm, rfl⟩
  · rintro ⟨rfl, rfl⟩
    unfold target
    rw [chainAt_place, stageAt_place, peer_peer]

theorem owed_at_recv (d d' : Dev nD) (c s : Fin 6) :
    owed d' 0 (recvCell d c s.val) () = if d' = peer d c (stageAxis s.val) then amt c s.val else 0 := by
  unfold owed
  rw [Finset.sum_apply, Finsupp.finset_sum_apply, Finset.sum_eq_single (place c s.val)]
  · rw [tallyAt_apply, chainAt_place, stageAt_place]
    by_cases h : d' = peer d c (stageAxis s.val)
    · rw [if_pos h, if_pos ⟨(target_eq_iff (place_lt c s.isLt)).mpr ⟨rfl, h⟩, rfl⟩]
    · rw [if_neg h, if_neg fun h' => h ((target_eq_iff (place_lt c s.isLt)).mp h'.1).2]
  · intro p hp hne
    rw [tallyAt_apply, if_neg fun h' => hne ((target_eq_iff (Finset.mem_Ico.mp hp).2).mp h'.1).1]
  · intro h
    exact absurd (Finset.mem_Ico.mpr ⟨Nat.zero_le _, place_lt c s.isLt⟩) h

theorem owed_elsewhere {d' : Dev nD} {g : GSem nD τ sig} (h : ∀ p, p < 36 → g ≠ target d' p) : owed d' 0 g () = 0 := by
  by_contra hn
  obtain ⟨p, -, hp, hg⟩ := owed_pos (Nat.pos_of_ne_zero hn)
  exact h p hp hg

theorem role_target (d : Dev nD) (p : ℕ) : ∃ c s, role (target d p).2 = .recv c s := ⟨_, _, role_recv _ _⟩

theorem tally_bar (d d' : Dev nD) (a : Fin 3) : tallyAt (barCell (flip d' a)) () 1 (barCell d) () = if d' = flip d a then 1 else 0 := by
  rw [tallyAt_apply]
  by_cases h : d' = flip d a
  · rw [if_pos h, if_pos ⟨by rw [h, flip_flip], rfl⟩]
  · rw [if_neg h, if_neg fun h' => h (by rw [bar_eq_iff.mp h'.1, flip_flip])]

theorem tally_off {d' : Dev nD} {g : GSem nD τ sig} (h : role g.2 ≠ .bar) (a : Fin 3) : tallyAt (barCell (flip d' a)) () 1 g () = 0 := by
  rw [tallyAt_apply, if_neg fun h' => h (by rw [h'.1]; exact role_bar)]

theorem owed₃_apply (d' : Dev nD) (g : GSem nD τ sig) :
    owed₃ d' g () = owed d' 0 g () + tallyAt (barCell (flip d' 2)) () 1 g () + tallyAt (barCell (flip d' 1)) () 1 g ()
      + tallyAt (barCell (flip d' 0)) () 1 g () := rfl

theorem sum_at (x : Dev nD) (n : ℕ) : (∑ d' : Dev nD, if d' = x then n else 0) = n := by
  rw [Finset.sum_ite_eq' Finset.univ x fun _ => n, if_pos (Finset.mem_univ _)]

theorem due_bar (d : Dev nD) : ∑ d' : Dev nD, owed₃ d' (barCell d) () = 3 := by
  rw [Finset.sum_congr rfl fun d' _ => by
    rw [owed₃_apply, owed_elsewhere fun p _ h => by
        obtain ⟨c, s, hr⟩ := role_target d' p
        rw [← h, role_bar] at hr
        exact Role.noConfusion hr,
      tally_bar, tally_bar, tally_bar, zero_add]]
  rw [Finset.sum_add_distrib, Finset.sum_add_distrib, sum_at, sum_at, sum_at]

theorem due_recv (d : Dev nD) (c s : Fin 6) : ∑ d' : Dev nD, owed₃ d' (recvCell d c s.val) () = amt c s.val := by
  have hne : role (recvCell d c s.val).2 ≠ .bar := by rw [role_recv]; exact fun h => Role.noConfusion h
  rw [Finset.sum_congr rfl fun d' _ => by
    rw [owed₃_apply, owed_at_recv, tally_off hne, tally_off hne, tally_off hne, add_zero, add_zero, add_zero], sum_at]

theorem credit_eq {g : GSem nD τ sig} {n : ℕ} (h : ∑ d' : Dev nD, owed₃ d' g () = n) :
    tallyOn g (launchCredit (Pipeline.owing owed₃) 0 g) = (tallyAt g () n : CellTallies nD τ sig Unit) := by
  unfold tallyAt
  refine congrArg _ (Finsupp.ext fun u => ?_)
  cases u
  rw [Pipeline.launchCredit_owing, Finsupp.single_eq_same, h]

section Begin
variable (X : Dev nD → Tab F) (d : Dev nD)

/-- The rights to wait that a device starts with. -/
def Credits : sProp 𝕄 :=
  iprop(cred (tallyAt (barCell d) () 3)
    ∗ bigSep Finset.univ fun c : Fin 6 => bigSep Finset.univ fun s : Fin 6 => cred (tallyAt (recvCell d c s.val) () (amt c s.val)))

theorem credits : (Pipeline.launchCred owed₃ d : sProp 𝕄) ⊢ Credits d := by
  have h : (Pipeline.launchCred owed₃ d : sProp 𝕄)
      ⊢ bigSep Finset.univ fun i : Fin 43 => cred (tallyOn (kcell (d, i)) (launchCredit (Pipeline.owing owed₃) 0 (kcell (d, i)))) := by
    have h := bigSep_subset (Finset.subset_univ (Finset.univ.map ⟨csem, csem_injective⟩))
      (Φ := fun sm => (cred (tallyOn ((d : Thread nD τ), sm) (launchCredit (Pipeline.owing owed₃) 0 ((d : Thread nD τ), sm))) : sProp 𝕄))
    rw [bigSep_map] at h
    exact h
  refine h.trans ?_
  rw [by_use, credit_eq (due_bar d)]
  have hr : (bigSep Finset.univ fun c : Fin 6 => bigSep Finset.univ fun s : Fin 6 =>
        (cred (tallyOn (kcell (d, iRecv c s)) (launchCredit (Pipeline.owing owed₃) 0 (kcell (d, iRecv c s)))) : sProp 𝕄))
      = bigSep Finset.univ fun c : Fin 6 => bigSep Finset.univ fun s : Fin 6 => cred (tallyAt (recvCell d c s.val) () (amt c s.val)) :=
    bigSep_congr fun c _ => bigSep_congr fun s _ => by rw [recv_val, credit_eq (due_recv d c s)]
  rw [hr]
  unfold Credits
  iintro ⟨-, Hr, Hb⟩
  isplitl [Hb] <;> iassumption

/-! ## What a device starts its body with -/

/-- The stages of a chain, none begun. -/
theorem ahead_all (c : Fin 6) : (bigSep Finset.univ fun s : Fin 6 => stageOf (F := F) d c s.val) ⊢ ahead d c 6 := by
  rw [bigSep_six]
  show _ ⊢ iprop(stageOf (F := F) d c 0 ∗ stageOf (F := F) d c 1 ∗ stageOf (F := F) d c 2 ∗ stageOf (F := F) d c 3
    ∗ stageOf (F := F) d c 4 ∗ stageOf (F := F) d c 5 ∗ emp)
  iintro ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  iempintro

variable {d}

theorem chain_begins (K : Dev nD × Fin 43 → ℕ) (c : Fin 6) :
    iprop(Shared X K ∗ atPos ER (sendCell d c) 0 ∅ 0 ∗ bigSep Finset.univ fun s : Fin 6 => stageOf (F := F) d c s.val) ⊢ Ready d c 0 := by
  have hr := shared_reached X K d (iSend c)
  have ha := ahead_all (F := F) d c
  unfold Ready
  iintro ⟨#HS, Hat, Hst⟩
  isplitr; · unfold behind; iempintro
  isplitl [Hat]; · iexact Hat
  isplitr; · iapply hr; iexact HS
  iapply ha; iexact Hst

/-- All of it, but for the buffers. -/
theorem begins (K : Dev nD × Fin 43 → ℕ) :
    iprop(Shared X K ∗ Places d ∗ Credits d)
      ⊢ iprop((atPos ER (barCell d) 0 ∅ 0 ∗ cred (tallyAt (barCell d) () 3))
        ∗ (bigSep Finset.univ fun a : Fin 3 => dutyTok ER (barCell (flip d a)) 0 a)
        ∗ bigSep Finset.univ fun c => Ready (F := F) d c 0) := by
  have hc : iprop(Shared X K ∗ bigSep Finset.univ fun c : Fin 6 => iprop(atPos ER (sendCell d c) 0 ∅ 0
      ∗ bigSep Finset.univ fun s : Fin 6 => stageOf (F := F) d c s.val)) ⊢ bigSep Finset.univ fun c => Ready (F := F) d c 0 :=
    bigSep_with_persistent fun c _ => chain_begins X K c
  have hst : (bigSep Finset.univ fun c : Fin 6 => iprop(atPos ER (sendCell d c) 0 ∅ 0 ∗ bigSep Finset.univ fun s : Fin 6 => stageOf (F := F) d c s.val))
      = iprop((bigSep Finset.univ fun c : Fin 6 => atPos ER (sendCell d c) 0 ∅ 0)
        ∗ (bigSep Finset.univ fun c : Fin 6 => bigSep Finset.univ fun s : Fin 6 => atPos ER (recvCell d c s.val) 0 ∅ 0)
        ∗ (bigSep Finset.univ fun c : Fin 6 => bigSep Finset.univ fun s : Fin 6 => cred (tallyAt (recvCell d c s.val) () (amt c s.val)))
        ∗ (bigSep Finset.univ fun c : Fin 6 => bigSep Finset.univ fun s : Fin 6 => dutyTok ER (sendCell d c) s.val 0)
        ∗ (bigSep Finset.univ fun c : Fin 6 => bigSep Finset.univ fun s : Fin 6 => dutyTok ER (recvCell (peer d c (stageAxis s.val)) c s.val) 0 0)) := by
    unfold stageOf
    simp only [bigSep_sep']
  have hat : (bigSep Finset.univ fun c : Fin 6 => bigSep Finset.univ fun s : Fin 6 => (atPos ER (kcell (d, iRecv c s)) 0 ∅ 0 : sProp 𝕄))
      = bigSep Finset.univ fun c : Fin 6 => bigSep Finset.univ fun s : Fin 6 => atPos ER (recvCell d c s.val) 0 ∅ 0 :=
    bigSep_congr fun c _ => bigSep_congr fun s _ => by rw [recv_val]
  unfold Places payDuties Credits
  rw [by_use, hat]
  iintro ⟨#HS, ⟨⟨Has, Har, Hab⟩, Htb, Hts, Htr⟩, Hcb, Hcr⟩
  isplitl [Hab Hcb]
  · isplitl [Hab] <;> iassumption
  isplitl [Htb]; · iexact Htb
  iapply hc
  isplitr; · iexact HS
  rw [hst]
  isplitl [Has]; · iexact Has
  isplitl [Har]; · iexact Har
  isplitl [Hcr]; · iexact Hcr
  isplitl [Hts]; · iexact Hts
  iexact Htr

/-- With what it owes and its buffers a device has what its body starts with. -/
theorem opens :
    iprop((Dealt X d ∗ Credits d ∗ levAts L lv) ∗ (∃ W, owes (d : Thread nD τ) (owed₃ d) W)
        ∗ rows xM d 0 2048 (X d) ∗ anyRows oM d 0 2048 ∗ anyRows sM d 0 1792)
      ⊢ iprop(∃ K, Opening X K d) := by
  unfold Dealt Known
  iintro ⟨⟨⟨%K, ⟨#HI, #HR⟩, HP⟩, HC, #HL⟩, HO, Hx, Ho, Hs⟩
  iexists K
  have hb := begins X (d := d) K
  have hS : iprop((bigSep Finset.univ fun ck => cellInv ER (Rd X) (K ck) (kcell ck))
      ∗ (bigSep Finset.univ fun ck => reached ER (kcell ck) 0) ∗ levAts L lv) ⊢ Shared X K := BI.Entails.refl _
  ihave HS := hS $$ []
  · isplitr; · iexact HI
    isplitr; · iexact HR
    iexact HL
  icases HS with #HS
  ihave Hb := hb $$ [HP HC]
  · isplitr; · iexact HS
    isplitl [HP] <;> iassumption
  icases Hb with ⟨Hb, Ht, HRd⟩
  unfold Opening
  isplitr; · iexact HS
  isplitl [HO]; · iexact HO
  isplitl [Hb]; · iexact Hb
  isplitl [Ht]; · iexact Ht
  isplitl [HRd]; · iexact HRd
  isplitl [Hx]; · iexact Hx
  isplitl [Ho]; · iexact Ho
  iexact Hs

end Begin

end Cert.AllReduce

end
-- ==== Proof.Run.lean ====
/-
The run: from any memory with every semaphore at zero the program ends on all eight devices, with every device's result
the total of the inputs, its input as it was, and every semaphore at zero again.
-/
module

public import proofs.«01_k».proof.Proof.Credit
public import proofs.«01_k».proof.Proof.Gen.KernelIdeal.Points
public import proofs.«01_k».proof.Proof.Gen.KernelIdeal.Frame
public import Idealize.ShloMosaic.Lib.Pipeline.CollectiveSegs
public import Idealize.ShloMosaic.Lib.Pipeline.ValueKit.Geometry

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers -/

section Whole
variable {R : ℕ} {b : Memref sig .tc .vmem (RowsS R) .f32} (hb : b.IsWhole) (d : Dev nD)
include hb

theorem setOn_all : b.view.setOn (rowSet R 0 R) = Finset.univ := by
  rw [rowSet_all]; exact hb.set_eq_univ

/-- A whole buffer at a table's contents is all its rows at them, -/
theorem whole_rows {w : Tab F} {f : Buf (Elt F) (b.view.loc (d : Thread nD τ))}
    (hf : ∀ i, b.view.read (Elt F) f i = w (i 0).val (i 1).val) :
    (b.view.loc (d : Thread nD τ) ↦{fullShare} f : sProp 𝕄) ⊢ rows b d 0 R w := by
  unfold rows
  rw [setOn_all hb]
  iintro H
  iexists f
  isplitr; · ipureintro; exact fun i _ => hf i
  iexact H

/-- and all its rows are the whole buffer. -/
theorem rows_whole (w : Tab F) :
    rows b d 0 R w ⊢ (iprop(∃ f : Buf (Elt F) (b.view.loc (d : Thread nD τ)), ⌜∀ i, b.view.read (Elt F) f i = w (i 0).val (i 1).val⌝
      ∗ b.view.loc (d : Thread nD τ) ↦{fullShare} f) : sProp 𝕄) := by
  unfold rows
  rw [setOn_all hb, rowSet_all]
  iintro ⟨%f, %hf, H⟩
  iexists f
  isplitr; · ipureintro; exact fun i => hf i (Finset.mem_univ i)
  iexact H

theorem whole_any (f : Buf (Elt F) (b.view.loc (d : Thread nD τ))) :
    (b.view.loc (d : Thread nD τ) ↦{fullShare} f : sProp 𝕄) ⊢ anyRows b d 0 R := by
  unfold anyRows
  rw [setOn_all hb]
  iintro H
  iexists f; iexact H

theorem any_whole : anyRows (F := F) b d 0 R
    ⊢ (iprop(∃ f : Buf (Elt F) (b.view.loc (d : Thread nD τ)), b.view.loc (d : Thread nD τ) ↦{fullShare} f) : sProp 𝕄) := by
  unfold anyRows
  rw [setOn_all hb]

end Whole

/-! ## What the run starts from and computes -/

/-- An entry's index from any row and column number. -/
def entry (i j : ℕ) : (RowsS 2048).Idx := fun a =>
  ⟨(![i % 2048, j % 1024] : Fin 2 → ℕ) a,
    (Fin.forall_fin_two.mpr ⟨Nat.mod_lt _ (by decide), Nat.mod_lt _ (by decide)⟩ : ∀ a : Fin 2, (![i % 2048, j % 1024] : Fin 2 → ℕ) a < (![2048, 1024] : Fin 2 → ℕ) a) a⟩

theorem entry_val (i : (RowsS 2048).Idx) : entry (i 0).val (i 1).val = i := by
  have h0 : (i 0).val < 2048 := (i 0).isLt
  have h1 : (i 1).val < 1024 := (i 1).isLt
  exact funext (Fin.forall_fin_two.mpr ⟨Fin.ext (Nat.mod_eq_of_lt h0), Fin.ext (Nat.mod_eq_of_lt h1)⟩)

section Data
variable (m : (ℓ : Loc nD τ sig) → Buf (Elt F) ℓ) (ρ : Dev nD → PrngReg)

/-- Memory at launch, every semaphore at zero. -/
def s₀ : MemSt nD τ sig (Elt F) := ⟨m, fun _ => 0, ρ⟩

/-- Device `d`'s input, as its body finds it. -/
def input (d : Dev nD) : (cc0_stg0_0 : Ref sig .tc).ty.Contents (Elt F) :=
  (win0_0.blk (0 : Fin 1)).view.read (Elt F) ((s₀ m ρ).mem ((d : Thread nD τ).loc main_arg0))

/-- The inputs as tables. -/
def inputs (d : Dev nD) : Tab F := fun i j => input m ρ d (entry i j)

/-- Every device's result. -/
def output : (cc0_stg1_0 : Ref sig .tc).ty.Contents (Elt F) :=
  fun i : (RowsS 2048).Idx => total (inputs m ρ) (i 0).val (i 1).val

/-- What a device starts its body with, but for its buffers. -/
def begun (d : Dev nD) : sProp 𝕄 := iprop(Dealt (inputs m ρ) d ∗ Credits d ∗ levAts L lv)

/-- A buffer, whole, whatever it holds. -/
abbrev held (d : Dev nD) (b : Ref sig .tc) : sProp 𝕄 :=
  iprop(∃ f : Buf (Elt F) ((d : Thread nD τ).loc b), ((d : Thread nD τ).loc b) ↦{fullShare} f)

/-- A buffer, whole, at known contents. -/
abbrev heldAt (d : Dev nD) (b : Ref sig .tc) (v : b.ty.Contents (Elt F)) : sProp 𝕄 :=
  iprop(∃ f : Buf (Elt F) ((d : Thread nD τ).loc b), ⌜f = v⌝ ∗ ((d : Thread nD τ).loc b) ↦{fullShare} f)

/-- After its body: its scratch, and its semaphores at zero. -/
def ended₁ (d : Dev nD) : sProp 𝕄 :=
  iprop(held d cc0_scratch0 ∗ bigSep Finset.univ fun i : Fin 43 => semVal (kcell (d, i)) 0)

/-- What the launch is told of each device: its arrays at launch, what its body leaves in the two windows, what it holds
    and owes before and after. -/
def dats (_ : Fin 1) (d : Dev nD) : Pipeline.Dat τ (Elt F) Unit ℕ UU ℕ cfg0 d where
  A w := (s₀ m ρ).mem ((cfg0.win w).arr.view.loc (d : Thread nD τ))
  after w _ := match w with
    | ⟨0, _⟩ => input m ρ d
    | ⟨1, _⟩ => output m ρ
  Φ t := match t with
    | ⟨0, _⟩ => iprop(begun m ρ d ∗ held d cc0_scratch0)
    | ⟨_ + 1, _⟩ => ended₁ d
  q _ := fullShare
  owed t := match t with
    | ⟨0, _⟩ => owed₃ d
    | ⟨_ + 1, _⟩ => 0

variable (d : Dev nD)

theorem share_full (w : Fin cfg0.W) : (dats m ρ 0 d).share w = fullShare := by unfold Pipeline.Dat.share; split <;> rfl

theorem owns_whole (b : Ref sig .tc) (v : b.ty.Contents (Elt F)) :
    (owns (Ix := Unit) (Name := ℕ) (U := UU) (Lvl := ℕ) (d : Thread nD τ) (Memref.whole b) fullShare v : sProp 𝕄) = heldAt d b v := by
  unfold owns; simp only [Memref.view_whole, View.read_whole, View.set_whole]

/-! ## The body -/

/-- What the body is given, and what it is to give. -/
def given₀ : sProp 𝕄 :=
  iprop((begun m ρ d ∗ held d cc0_scratch0) ∗ (dats m ρ 0 d).owesAt () t0_0.castSucc
    ∗ (∃ f, heldAt d cc0_stg0_0 ((dats m ρ 0 d).before (0 : Fin 2) t0_0 f))
    ∗ (∃ f, heldAt d cc0_stg1_0 ((dats m ρ 0 d).before (1 : Fin 2) t0_0 f)))
def given₁ : sProp 𝕄 :=
  iprop(ended₁ d ∗ (dats m ρ 0 d).owesAt () t0_0.succ ∗ heldAt d cc0_stg0_0 (input m ρ d) ∗ heldAt d cc0_stg1_0 (output m ρ))

theorem before_input (f : (cc0_stg0_0 : Ref sig .tc).ty.Contents (Elt F)) : (dats m ρ 0 d).before (0 : Fin 2) t0_0 f = input m ρ d := by
  unfold Pipeline.Dat.before; rw [if_pos (fetch0_0 t0_0)]; rfl

theorem opens_body : given₀ m ρ d ⊢ iprop(∃ K, Opening (inputs m ρ) K d) := by
  suffices h : given₀ m ρ d ⊢ iprop(begun m ρ d ∗ (∃ W, owes (d : Thread nD τ) (owed₃ d) W)
      ∗ rows xM d 0 2048 (inputs m ρ d) ∗ anyRows oM d 0 2048 ∗ anyRows sM d 0 1792) by
    exact h.trans (opens (inputs m ρ) (d := d))
  unfold given₀
  iintro ⟨⟨HB, ⟨%fs, Hs⟩⟩, HO, ⟨%f0, %g0, %hg0, Hx⟩, ⟨%f1, %g1, %hg1, Ho⟩⟩
  rw [before_input] at hg0
  subst hg0
  have hx := whole_rows (b := xM) (Memref.isWhole_whole _) d (w := inputs m ρ d) (f := input m ρ d) fun i => by
    unfold inputs
    rw [entry_val]; rfl
  have ho := whole_any (b := oM) (Memref.isWhole_whole _) d g1
  have hs := whole_any (b := sM) (Memref.isWhole_whole _) d fs
  unfold Pipeline.Dat.owesAt Pipeline.owesWithin
  icases HO with ⟨%W, -, HO⟩
  isplitl [HB]; · iexact HB
  isplitl [HO]; · iexists W; iexact HO
  isplitl [Hx]; · iapply hx; iexact Hx
  isplitl [Ho]; · iapply ho; iexact Ho
  iapply hs; iexact Hs

theorem ends_body : Ending (inputs m ρ) d ⊢ given₁ m ρ d := by
  unfold Ending given₁ ended₁
  iintro ⟨⟨%W, HO⟩, Hz, Hx, Ho, Hs⟩
  have hx := rows_whole (b := xM) (Memref.isWhole_whole _) d (inputs m ρ d)
  have ho := rows_whole (b := oM) (Memref.isWhole_whole _) d (total (inputs m ρ))
  have hs := any_whole (F := F) (b := sM) (Memref.isWhole_whole _) d
  ihave Hx := hx $$ Hx
  ihave Ho := ho $$ Ho
  ihave Hs := hs $$ Hs
  icases Hx with ⟨%f, %hf, Hx⟩
  icases Ho with ⟨%g, %hg, Ho⟩
  isplitl [Hs Hz]
  · isplitl [Hs]; · iexact Hs
    iexact Hz
  isplitl [HO]
  · unfold Pipeline.Dat.owesAt Pipeline.owesWithin
    iexists W
    isplitr; · ipureintro; exact fun _ _ => Or.inl trivial
    iexact HO
  isplitl [Hx]
  · iexists f
    isplitr
    · ipureintro
      funext i
      refine (hf i).trans ?_
      unfold inputs
      rw [entry_val]
    iexact Hx
  iexists g
  isplitr
  · ipureintro
    funext i
    exact hg i
  iexact Ho

/-- The body of every device does what the launch is told it does. -/
theorem body_obligation : Pipeline.BodyObligation (dats (F := F) m ρ 0 d) (defs₀ (F := F)) 𝒱₀ () Set.univ := fun t => by
  rw [fin_N0 t]
  rw [bigSep_W0, bigSep_W0]
  simp only [owns_whole]
  show given₀ m ρ d ⊢ Runs d (cc0_body (F := F) xM (Memref.isWhole_whole _) oM (Memref.isWhole_whole _) sM (Memref.isWhole_whole _)
    cc0_scratch1 cc0_scratch2) (fun _ => given₁ m ρ d)
  have hb : ∀ K, Opening (inputs m ρ) K d ⊢ Runs d (cc0_body (F := F) xM (Memref.isWhole_whole _) oM (Memref.isWhole_whole _) sM (Memref.isWhole_whole _)
    cc0_scratch1 cc0_scratch2) (fun _ => given₁ m ρ d) := fun K => (body_ends (inputs m ρ) K).trans (wp_mono _ _ _ fun _ => ends_body m ρ d)
  refine (opens_body m ρ d).trans ?_
  iintro ⟨%K, H⟩
  iapply (hb K); iexact H

/-! ## The launch's side conditions -/

theorem start_intro :
    iprop(Pipeline.unscopedRestP Pipeline.Prefetch.none cfg0.spec d (fun b => m ((d : Thread nD τ).loc b)) ∗ levAts L lv
        ∗ Pipeline.launchCred owed₃ d ∗ prngReg d (ρ d) ∗ Dealt (inputs m ρ) d)
      ⊢ |={Set.univ}=> iprop(begun m ρ d ∗ emp) := by
  have hc := credits (F := F) d
  iintro ⟨-, Hlev, Hcr, -, HG⟩
  ihave Hc := hc $$ Hcr
  imodintro
  unfold begun
  isplitl
  · isplitl [HG]; · iexact HG
    isplitl [Hc]; · iexact Hc
    iexact Hlev
  · iempintro

theorem enter :
    iprop(begun m ρ d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = iprop(begun m ρ d ∗ held d cc0_scratch0) from rfl, scopedRest0_eq]
  iintro ⟨Hs, -, Hr⟩
  isplitl [Hs]; · iexact Hs
  iexact Hr

theorem exit :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = ended₁ d from rfl, scopedRest0_eq]
  unfold ended₁
  rw [sems_eq]
  iintro ⟨Hr, Hu, Ho⟩
  isplitl [Hu]; · iexact Hu
  isplitl [Ho]; · iexact Ho
  iexact Hr

theorem waits : (levAts L lv : sProp 𝕄) ⊢ Pipeline.cellsWaits cfgs (dats m ρ) () 0 d :=
  Pipeline.cellsWaits_intro cfgs (dats m ρ) () 0 d fun w s t =>
    mayWait_stage d _ (by fin_cases w <;> fin_cases s <;> rfl) _ (by
      rcases t with ⟨_ | _, ht⟩
      · exact Or.inl rfl
      · exact Or.inr rfl)

/-! ## The run -/

/-- What a windowed array holds after the run. -/
def finalA (w : Fin cfg0.W) : Buf (Elt F) ((cfg0.win w).arr.view.loc (d : Thread nD τ)) := (dats m ρ 0 d).arrAt w cfg0.N

/-- On eight devices, for any float values, from any memory with every semaphore at zero: every weakly fair execution
    ends, with every device's two arrays as computed and every semaphore at zero. -/
theorem run_arrays : θ_run defs (onTc (τ := τ) (main (F := F))) (s₀ m ρ) (fun r =>
    (∀ d : Dev nD, ∀ w : Fin cfg0.W, r.2.mem ((cfg0.win w).arr.view.loc (d : Thread nD τ)) = finalA m ρ d w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ)
    (hdistinct := winFacts0.arr_inj)
    (O₀ := owed₃) (howed₀ := fun _ => rfl) (howedN := fun _ => rfl)
    (L := L) (lv := lv) (hL := L_of_ne) (hwaits := waits m ρ)
    (G := Made (inputs m ρ)) (G' := Dealt (inputs m ρ)) (u₀ := u₀)
    (hu₀ := by
      unfold u₀
      iintro Hu
      ihave H := (ownU_pair _ _) $$ Hu
      icases H with ⟨HP, HX⟩
      imod (made (inputs m ρ)) $$ HX with HG
      imodintro
      isplitl [HP] <;> iassumption)
    (hglob := deal (inputs m ρ))
    (hA := fun _ _ => rfl) (hpf := fun _ k => k.elim0)
    (X := begun m ρ) (Y := fun d => unscopedSems0 d) (Z := fun _ => iprop(emp))
    (hX := start_intro m ρ) (hin := enter m ρ) (hout := exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The input array holds what it held. -/
theorem final_input : finalA m ρ d (0 : Fin 2) = (s₀ m ρ).mem (win0_0.arr.view.loc (d : Thread nD τ)) :=
  (dats (F := F) m ρ 0 d).arrAt_in (0 : Fin 2) rfl _

/-- The block a device's input is read by is its whole input array. -/
theorem input_eq : input m ρ d = m ((d : Thread nD τ).loc main_arg0) := by
  funext i
  show m ((d : Thread nD τ).loc main_arg0) ((win0_0.blk (0 : Fin 1)).view.emb i) = _
  exact congrArg _ (funext (Fin.forall_fin_two.mpr ⟨Fin.ext (by simp; decide +kernel), Fin.ext (by simp; decide +kernel)⟩))

/-- The output array holds the total of the inputs. -/
theorem final_output : finalA m ρ d (1 : Fin 2) = output m ρ := by
  refine (dats (F := F) m ρ 0 d).arrAt_eq_of_after_last (1 : Fin 2) t0_0 (by decide +kernel) _ fun j => ?_
  rfl

/-- On eight devices, for any float values, from any memory with every semaphore at zero: every weakly fair execution
    ends, with every device's result the total of the inputs, its input unchanged and every semaphore at zero. -/
theorem run_main : θ_run defs (onTc (τ := τ) (main (F := F))) (s₀ m ρ) (fun r =>
    (∀ d : Dev nD, r.2.mem ((d : Thread nD τ).loc main_v1) = output m ρ
      ∧ r.2.mem ((d : Thread nD τ).loc main_arg0) = m ((d : Thread nD τ).loc main_arg0)) ∧ r.2.sem = fun _ => 0) :=
  (θ_run defs _ _).mono (fun _ h => ⟨fun d =>
    ⟨(h.1 d (1 : Fin 2)).trans (final_output m ρ d), (h.1 d (0 : Fin 2)).trans (final_input m ρ d)⟩, h.2⟩) (run_arrays m ρ)

end Data

end Cert.AllReduce

end
-- ==== Proof.Sum.lean ====
/-
The arithmetic: over the extended reals the tree of additions that reduces a row is the plain sum over the eight devices,
whichever device is the root and in whichever order the chain takes its axes.
-/
module

public import proofs.«01_k».proof.Proof.Protocol
public import Idealize.ShloMosaic.PureOps.Ideal

@[expose] public section

noncomputable section

namespace Cert.AllReduce

open Cert.KernelIdeal Cert.KernelIdeal.Gen
open Idealize.ShloMosaic
open Idealize.ShloMosaic.TcCoe

/-- The devices at the leaves of the tree of chain `c` with root `d`, from left to right. -/
def leaf (c : Fin 6) (d : Dev nD) : Fin 8 → Dev nD :=
  ![d, peer d c 0, peer d c 1, peer (peer d c 1) c 0,
    peer d c 2, peer (peer d c 2) c 0, peer (peer d c 2) c 1, peer (peer (peer d c 2) c 1) c 0]

/-- Every device is a leaf, once. -/
theorem leaf_bijective (c : Fin 6) (d : Dev nD) : Function.Bijective (leaf c d) :=
  Finite.injective_iff_bijective.mp ((by decide +kernel : ∀ c d, Function.Injective (leaf c d)) c d)

/-- Three stages of additions are the sum over the devices. -/
theorem psum_three (X : Dev nD → Tab Ideal) (d : Dev nD) (i j : ℕ) :
    psum X 3 d i j = (∑ e : Dev nD, (X e i j : EReal)) := by
  have h := Fintype.sum_bijective (leaf (chainOf i) d) (leaf_bijective _ d) (fun k => (X (leaf (chainOf i) d k) i j : EReal))
    (fun e => (X e i j : EReal)) fun _ => rfl
  rw [← h, Fin.sum_univ_eight]
  show ((((X d i j : EReal) + X (peer d (chainOf i) 0) i j)
      + ((X (peer d (chainOf i) 1) i j : EReal) + X (peer (peer d (chainOf i) 1) (chainOf i) 0) i j))
    + (((X (peer d (chainOf i) 2) i j : EReal) + X (peer (peer d (chainOf i) 2) (chainOf i) 0) i j)
      + ((X (peer (peer d (chainOf i) 2) (chainOf i) 1) i j : EReal)
        + X (peer (peer (peer d (chainOf i) 2) (chainOf i) 1) (chainOf i) 0) i j))) = _
  simp only [← add_assoc]
  rfl

/-- The result is the sum over the devices. -/
theorem total_eq_sum (X : Dev nD → Tab Ideal) (i j : ℕ) : total X i j = (∑ e : Dev nD, (X e i j : EReal)) :=
  psum_three X (owner i) i j

end Cert.AllReduce

end
-- ==== Proof.Value.lean ====
/-
The value: over the extended reals every device's result is the reference's, the sum over the first axis of the whole
input cut into the eight devices' blocks.
-/
module

public import proofs.«01_k».proof.Proof.Run
public import proofs.«01_k».proof.Proof.Sum
public import proofs.«01_k».proof.Proof.Gen.ReferenceIdeal.Run
public import Idealize.ShloMosaic.Lib.Layout
public import Idealize.ShloMosaic.Lib.Pipeline.Value
public import Idealize.ShloMosaic.Lib.Pointwise.Reduce
public import Idealize.ShloMosaic.PureOps.Ideal.Laws

@[expose] public section

noncomputable section

namespace Cert.AllReduce

open Idealize.ShloMosaic
open Idealize.ShloMosaic.TcCoe

/-- The whole input, before it is cut into the devices' blocks. -/
abbrev Whole : Shape := ⟨2, ![16384, 1024]⟩

/-- What the reference leaves of a whole input. -/
abbrev summed (v : Whole.Idx → EReal) : (RowsS 2048).Idx → EReal :=
  Host.reduceAdd (F := Ideal) (φ := .f32) (shapeCast _ v Cert.ReferenceIdeal.Gen.shapeCasts_S16384x1024_S8x2048x1024)
    (constant Cert.ReferenceIdeal.S_ .f32 0x00000000#32) Cert.ReferenceIdeal.Gen.reducesTo_S8x2048x1024_S2048x1024_d0 Cert.ReferenceIdeal.Gen.h_S_

theorem tiles : Layout.Tiles (RowsS 2048) Whole 0 8 := by decide

/-- The reference's result is, at each entry, the sum over the devices of their blocks' entries. -/
theorem summed_apply (v : Whole.Idx → EReal) (i : (RowsS 2048).Idx) :
    summed v i = ∑ e : Fin 8, Layout.block (RowsS 2048) Whole 0 8 e v tiles i := by
  show Ideal.hostReduceAdd _ _ _ i = _
  rw [Ideal.hostReduceAdd_r3_a0]
  rw [show (constant (F := Ideal) Cert.ReferenceIdeal.S_ .f32 0x00000000#32) (Shape.Idx.first Cert.ReferenceIdeal.Gen.h_S_) = (0 : EReal) from Ideal.ofBits_zero_f32, zero_add]
  refine Finset.sum_congr rfl fun e _ => ?_
  refine shapeCast_apply v _ _ (tiles.idx e i) ?_
  rw [Shape.rowMajor_val_two, Shape.rowMajor_val_three]
  show (e.val * 2048 + (i 0).val) * 1024 + (i 1).val = (e.val * 2048 + (i 0).val) * 1024 + (i 1).val
  rfl

/-- From memories in which every device holds its block of the whole input, every device's result is the reference's. -/
theorem output_eq (m : (ℓ : Loc Cert.KernelIdeal.nD Cert.KernelIdeal.τ Cert.KernelIdeal.sig) → Buf (Elt Ideal) ℓ)
    (ρ : Dev Cert.KernelIdeal.nD → PrngReg) (v : Whole.Idx → EReal)
    (h : ∀ d : Dev Cert.KernelIdeal.nD,
      m ((d : Thread Cert.KernelIdeal.nD Cert.KernelIdeal.τ).loc Cert.KernelIdeal.main_arg0) = Layout.block (RowsS 2048) Whole 0 8 d v tiles) :
    output (F := Ideal) m ρ = summed v := by
  funext i
  refine (total_eq_sum (inputs (F := Ideal) m ρ) (i 0).val (i 1).val).trans ((Finset.sum_congr rfl fun e _ => ?_).trans (summed_apply v i).symm)
  show input (F := Ideal) m ρ e (entry (i 0).val (i 1).val) = _
  rw [input_eq, entry_val, h e]

end Cert.AllReduce

end
-- ==== Proof.lean ====
/-
The five claims, assembled: the three frames, that the idealization preserves the kernel, and that the kernel's result is
the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

section
set_option maxRecDepth 16384
variable {F : FTy → Type} [FloatOps F]

/-- The two printed kernels have the same body table, -/
theorem bodies_eq : Cert.Kernel.defs₀ (F := F) = Cert.KernelIdeal.defs₀ (F := F) := by
  unfold Cert.Kernel.defs₀ Cert.KernelIdeal.defs₀
  refine congrArg Defs.onTc ?_
  funext ℓ a
  match ℓ with
  | ⟨0, _⟩ => rfl

/-- and so the same table with their pipelines. -/
theorem tables_eq : Cert.Kernel.defs (F := F) = Cert.KernelIdeal.defs (F := F) :=
  congrArg (Pipeline.defs Cert.KernelIdeal.pcfgs) bodies_eq

end

/-- The kernel on machine words ends on every device, its inputs unchanged and every semaphore at zero: the run of its
    text read over any float values, at machine words. -/
theorem frame_kernel : Cert.quiescent_Kernel := by
  intro m ρ _
  rw [tables_eq]
  exact (θ_run Cert.KernelIdeal.defs _ _).mono (fun _ h => ⟨fun d => (h.1 d).2, h.2⟩) (Cert.AllReduce.run_main (F := Bits) m ρ)

/-- The kernel on extended reals ends on every device, its inputs unchanged and every semaphore at zero. -/
theorem frame_kernelIdeal : Cert.quiescent_KernelIdeal := fun m ρ _ =>
  (θ_run Cert.KernelIdeal.defs _ _).mono (fun _ h => ⟨fun d => (h.1 d).2, h.2⟩) (Cert.AllReduce.run_main (F := Ideal) m ρ)

/-- The reference ends, its input unchanged; it has no semaphore. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- Nothing was rewritten to read the kernel over the extended reals. -/
theorem preserves : Cert.preserves_Kernel_KernelIdeal := trivial

/-- On extended reals every device's result is the reference's, the sum of the eight devices' blocks. -/
theorem algebraic : Cert.algebraic_KernelIdeal_ReferenceIdeal := fun m ρ m' ρ' _ hag =>
  ⟨Cert.AllReduce.summed (m' (((0 : Dev Cert.ReferenceIdeal.nD).tc : Thread Cert.ReferenceIdeal.nD Cert.ReferenceIdeal.τ).loc Cert.ReferenceIdeal.main_arg0)),
    (θ_run Cert.KernelIdeal.defs _ _).mono (fun _ h d => ⟨(h.1 d).1.trans (Cert.AllReduce.output_eq m ρ _ hag), (h.1 d).2⟩)
      (Cert.AllReduce.run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
